-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_attention [hPre_finite_attention : Cert.Pre_finite_attention.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_attention.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_attention [hPre_finite_attention : Cert.Pre_finite_attention.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_attention.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite_attention [hKernel6Ideal : Cert.Kernel6Ideal.Facts] [hPre_finite_attention : Cert.Pre_finite_attention.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_attention m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite_attention [hReference6Ideal : Cert.Reference6Ideal.Facts] [hPre_finite_attention : Cert.Pre_finite_attention.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_attention m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  IdealRules.named_const.Statement Cert.Kernel6Ideal.κ "inv_sqrt_d" .f32 0x3DB504F3#32 (((Real.sqrt 128)⁻¹ : ℝ) : EReal)

def algebraic_Kernel6Ideal_Reference6Ideal_pre_finite_attention [hKernel6Ideal : Cert.Kernel6Ideal.Facts] [hReference6Ideal : Cert.Reference6Ideal.Facts] [hPre_finite_attention : Cert.Pre_finite_attention.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_attention m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v59) = v0 c
          ∧ r.2.mem ((c.tc : Thread Cert.Reference6Ideal.nD Cert.Reference6Ideal.τ).loc Cert.Reference6Ideal.main_v73) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v33) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_attention : Cert.Pre_finite_attention.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_attention (hKernel6Ideal := hKernel6Ideal) (hPre_finite_attention := hPre_finite_attention)
    ∧ quiescent_Reference6Ideal (hReference6Ideal := hReference6Ideal)
    ∧ quiescent_Reference6Ideal_pre_finite_attention (hReference6Ideal := hReference6Ideal) (hPre_finite_attention := hPre_finite_attention)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_attention (hKernel6Ideal := hKernel6Ideal) (hReference6Ideal := hReference6Ideal) (hPre_finite_attention := hPre_finite_attention)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_attention.lean ====
abbrev S4x2048x2048 : Shape := ⟨3, ![4, 2048, 2048]⟩
abbrev S2048 : Shape := ⟨1, ![2048]⟩
abbrev S2x2048x512 : Shape := ⟨3, ![2, 2048, 512]⟩
abbrev S2x4x256x512 : Shape := ⟨4, ![2, 4, 256, 512]⟩
abbrev S2x512x2048 : Shape := ⟨3, ![2, 512, 2048]⟩
abbrev S128 : Shape := ⟨1, ![128]⟩
abbrev S_ : Shape := ⟨0, ![]⟩

class Facts : Prop where
  bitsLt_bf16_f32 : FTy.bits .bf16 < FTy.bits .f32
  bcast_S_S2x4x256x512 : S_.BroadcastsInDim S2x4x256x512 (![] : Fin 0 → Fin S2x4x256x512.rank)
  reducesTo_S2x4x256x512_S_d0_1_2_3 : S2x4x256x512.ReducesTo [0, 1, 2, 3] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S4x2048x2048 .f32) (main_arg1 : FVec F S2048 .f32) (main_arg2 : FVec F S2x2048x512 .f32) (main_arg3 : FVec F S2x4x256x512 .bf16) (main_arg4 : FVec F S2x4x256x512 .bf16) (main_arg5 : FVec F S2x512x2048 .f32) (main_arg6 : FVec F S128 .f32) (main_arg7 : FVec F S2048 .f32) : IVec S_ 1 :=
  let main_v0 : FVec F S2x4x256x512 .f32 := (extf .f32 · bitsLt_bf16_f32) main_arg3
  let main_v1 : FVec F S2x4x256x512 .f32 := Host.absf main_v0
  let main_cst : FVec F S_ .f32 := constant S_ .f32 0x7F800000#32
  let main_v2 : FVec F S2x4x256x512 .f32 := broadcastInDim S2x4x256x512 ![] bcast_S_S2x4x256x512 main_cst
  let main_v3 : IVec S2x4x256x512 1 := cmpf .olt main_v1 main_v2
  let main_c : IVec S_ 1 := constantI S_ 1 1#1
  let main_v4 : IVec S_ 1 := (fun x v => Host.reduce IntOp.andi x v reducesTo_S2x4x256x512_S_d0_1_2_3 h_S_) main_v3 main_c
  let main_v5 : FVec F S128 .f32 := Host.absf main_arg6
  let main_cst_0 : FVec F S_ .f32 := constant S_ .f32 0x7F800000#32
  let main_v6 : FVec F S128 .f32 := broadcastInDim S128 ![] bcast_S_S128 main_cst_0
  let main_v7 : IVec S128 1 := cmpf .olt main_v5 main_v6
  let main_c_1 : IVec S_ 1 := constantI S_ 1 1#1
  let main_v8 : IVec S_ 1 := (fun x v => Host.reduce IntOp.andi x v reducesTo_S128_S_d0 h_S_) main_v7 main_c_1
  let main_v9 : IVec S_ 1 := andi main_v4 main_v8
  main_v9
-- ==== Kernel.lean ====
abbrev S4x2048x7168 : Shape := ⟨3, ![4, 2048, 7168]⟩
abbrev S2x1024 : Shape := ⟨2, ![2, 1024]⟩
abbrev S128 : Shape := ⟨1, ![128]⟩
abbrev S1x2048x2048 : Shape := ⟨3, ![1, 2048, 2048]⟩
abbrev S1x128 : Shape := ⟨2, ![1, 128]⟩
abbrev S4x2048x1024 : Shape := ⟨3, ![4, 2048, 1024]⟩
abbrev S2048x2048 : Shape := ⟨2, ![2048, 2048]⟩
abbrev S1x256x1024 : Shape := ⟨3, ![1, 256, 1024]⟩
abbrev S1x64x2048 : Shape := ⟨3, ![1, 64, 2048]⟩
abbrev S64x2048 : Shape := ⟨2, ![64, 2048]⟩
abbrev S8x128x128 : Shape := ⟨3, ![8, 128, 128]⟩
abbrev S256x256 : Shape := ⟨2, ![256, 256]⟩
abbrev S1024 : Shape := ⟨1, ![1024]⟩
abbrev S1x1024 : Shape := ⟨2, ![1, 1024]⟩
abbrev S256x1024 : Shape := ⟨2, ![256, 1024]⟩
abbrev S256x128 : Shape := ⟨2, ![256, 128]⟩
abbrev S1x256x128 : Shape := ⟨3, ![1, 256, 128]⟩
abbrev S128x256 : Shape := ⟨2, ![128, 256]⟩
abbrev S1x128x128 : Shape := ⟨3, ![1, 128, 128]⟩
abbrev S128x128 : Shape := ⟨2, ![128, 128]⟩
abbrev S32x128 : Shape := ⟨2, ![32, 128]⟩
abbrev S128x32 : Shape := ⟨2, ![128, 32]⟩
abbrev S256 : Shape := ⟨1, ![256]⟩
abbrev S256x1 : Shape := ⟨2, ![256, 1]⟩

abbrev nBuf : Space → Nat
  | .hbm => 7
  | .vmem => 17
  | .smem => 0
  | _ => 0

abbrev bufTy : (tb : Table) → Fin (tcTables nBuf tb) → BufTy
  | .hbm, ⟨0, _⟩ => ⟨S4x2048x7168, .f32⟩
  | .hbm, ⟨1, _⟩ => ⟨S2x1024, .f32⟩
  | .hbm, ⟨2, _⟩ => ⟨S128, .f32⟩
  | .hbm, ⟨3, _⟩ => ⟨S1x2048x2048, .f32⟩
  | .hbm, ⟨4, _⟩ => ⟨S1x128, .f32⟩
  | .hbm, ⟨5, _⟩ => ⟨S4x2048x1024, .bf16⟩
  | .hbm, ⟨6, _⟩ => ⟨S2048x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S2x1024, .f32⟩
  | .local _ .vmem, ⟨9, _⟩ => ⟨S1x128, .f32⟩
  | .local _ .vmem, ⟨10, _⟩ => ⟨S1x64x2048, .f32⟩
  | .local _ .vmem, ⟨11, _⟩ => ⟨S1x64x2048, .f32⟩
  | .local _ .vmem, ⟨12, _⟩ => ⟨S1x256x1024, .bf16⟩
  | .local _ .vmem, ⟨13, _⟩ => ⟨S1x256x1024, .bf16⟩
  | .local _ .vmem, ⟨14, _⟩ => ⟨S64x2048, .bf16⟩
  | .local _ .vmem, ⟨15, _⟩ => ⟨S64x2048, .bf16⟩
  | .local _ .vmem, ⟨16, _⟩ => ⟨S8x128x128, .f32⟩
  | _, _ => ⟨S4x2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x2048x7168 : Shape := ⟨3, ![4, 2048, 7168]⟩
abbrev S2x1024 : Shape := ⟨2, ![2, 1024]⟩
abbrev S128 : Shape := ⟨1, ![128]⟩
abbrev S1x2048x2048 : Shape := ⟨3, ![1, 2048, 2048]⟩
abbrev S_ : Shape := ⟨0, ![]⟩
abbrev S1024 : Shape := ⟨1, ![1024]⟩
abbrev S1x1024 : Shape := ⟨2, ![1, 1024]⟩
abbrev S4x2048x1024 : Shape := ⟨3, ![4, 2048, 1024]⟩
abbrev S8x128 : Shape := ⟨2, ![8, 128]⟩
abbrev S4x2048x8x128 : Shape := ⟨4, ![4, 2048, 8, 128]⟩
abbrev S1x1x8x128 : Shape := ⟨4, ![1, 1, 8, 128]⟩
abbrev S4x64x32x8x128 : Shape := ⟨5, ![4, 64, 32, 8, 128]⟩
abbrev S4x8x64x32x128 : Shape := ⟨5, ![4, 8, 64, 32, 128]⟩
abbrev S32x32 : Shape := ⟨2, ![32, 32]⟩
abbrev S4x8x64x32x32 : Shape := ⟨5, ![4, 8, 64, 32, 32]⟩
abbrev S4x8x64x1x128 : Shape := ⟨5, ![4, 8, 64, 1, 128]⟩
abbrev S4x8x64x128 : Shape := ⟨4, ![4, 8, 64, 128]⟩
abbrev S4x8x64x128x128 : Shape := ⟨5, ![4, 8, 64, 128, 128]⟩
abbrev S4x8x128x128 : Shape := ⟨4, ![4, 8, 128, 128]⟩
abbrev S64x4x8x128x128 : Shape := ⟨5, ![64, 4, 8, 128, 128]⟩
abbrev S64x4x8x128 : Shape := ⟨4, ![64, 4, 8, 128]⟩
abbrev S1x4x8x128x128 : Shape := ⟨5, ![1, 4, 8, 128, 128]⟩
abbrev S1x4x8x128 : Shape := ⟨4, ![1, 4, 8, 128]⟩
abbrev S4x8x128 : Shape := ⟨3, ![4, 8, 128]⟩
abbrev S4x8x128x1 : Shape := ⟨4, ![4, 8, 128, 1]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S2048x2048 : Shape := ⟨2, ![2048, 2048]⟩

abbrev nBuf : Space → Nat
  | .hbm => 182
  | .vmem => 0
  | .smem => 0
  | _ => 0

abbrev hbmTy0_0 (i : Nat) : BufTy := match i % 128 with
  | 0 => ⟨S4x2048x7168, .f32⟩
  | 1 => ⟨S2x1024, .f32⟩
  | 2 => ⟨S128, .f32⟩
  | 3 => ⟨S1x2048x2048, .f32⟩
  | 4 => ⟨S_, .f32⟩
  | 5 => ⟨S1024, .f32⟩
  | 6 => ⟨S_, .f32⟩
  | 7 => ⟨S1024, .f32⟩
  | 8 => ⟨S1024, .f32⟩
  | 9 => ⟨S1x1024, .f32⟩
  | 10 => ⟨S2x1024, .f32⟩
  | 11 => ⟨S2x1024, .f32⟩
  | 12 => ⟨S2x1024, .f32⟩
  | 13 => ⟨S_, .f32⟩
  | 14 => ⟨S1024, .f32⟩
  | 15 => ⟨S1x1024, .f32⟩
  | 16 => ⟨S2x1024, .f32⟩
  | 17 => ⟨S2x1024, .f32⟩
  | 18 => ⟨S_, .f32⟩
  | 19 => ⟨S_, .f32⟩
  | 20 => ⟨S2x1024, .f32⟩
  | 21 => ⟨S1x1024, .f32⟩
  | 22 => ⟨S1024, .f32⟩
  | 23 => ⟨S1x1024, .f32⟩
  | 24 => ⟨S2x1024, .f32⟩
  | 25 => ⟨S2x1024, .f32⟩
  | 26 => ⟨S4x2048x1024, .f32⟩
  | 27 => ⟨S4x2048x1024, .f32⟩
  | 28 => ⟨S4x2048x1024, .f32⟩
  | 29 => ⟨S4x2048x1024, .f32⟩
  | 30 => ⟨S1x1024, .f32⟩
  | 31 => ⟨S1024, .f32⟩
  | 32 => ⟨S8x128, .f32⟩
  | 33 => ⟨S_, .f32⟩
  | 34 => ⟨S8x128, .f32⟩
  | 35 => ⟨S8x128, .f32⟩
  | 36 => ⟨S4x2048x8x128, .f32⟩
  | 37 => ⟨S4x2048x8x128, .f32⟩
  | 38 => ⟨S4x2048x8x128, .f32⟩
  | 39 => ⟨S_, .f32⟩
  | 40 => ⟨S4x2048x8x128, .f32⟩
  | 41 => ⟨S4x2048x8x128, .f32⟩
  | 42 => ⟨S_, .f32⟩
  | 43 => ⟨S4x2048x8x128, .f32⟩
  | 44 => ⟨S4x2048x8x128, .f32⟩
  | 45 => ⟨S1x1x8x128, .f32⟩
  | 46 => ⟨S4x2048x8x128, .f32⟩
  | 47 => ⟨S4x2048x8x128, .f32⟩
  | 48 => ⟨S1x1x8x128, .f32⟩
  | 49 => ⟨S4x2048x8x128, .f32⟩
  | 50 => ⟨S4x2048x8x128, .f32⟩
  | 51 => ⟨S4x2048x1024, .f32⟩
  | 52 => ⟨S4x2048x1024, .f32⟩
  | 53 => ⟨S_, .f32⟩
  | 54 => ⟨S4x2048x1024, .f32⟩
  | 55 => ⟨S4x2048x1024, .f32⟩
  | 56 => ⟨S_, .f32⟩
  | 57 => ⟨S4x2048x1024, .f32⟩
  | 58 => ⟨S4x2048x1024, .f32⟩
  | 59 => ⟨S4x2048x1024, .f32⟩
  | 60 => ⟨S4x2048x8x128, .f32⟩
  | 61 => ⟨S_, .f32⟩
  | 62 => ⟨S4x2048x8x128, .f32⟩
  | 63 => ⟨S4x2048x8x128, .f32⟩
  | 64 => ⟨S4x2048x8x128, .f32⟩
  | 65 => ⟨S4x2048x8x128, .f32⟩
  | 66 => ⟨S4x64x32x8x128, .f32⟩
  | 67 => ⟨S4x8x64x32x128, .f32⟩
  | 68 => ⟨S4x64x32x8x128, .f32⟩
  | 69 => ⟨S4x8x64x32x128, .f32⟩
  | 70 => ⟨S4x64x32x8x128, .f32⟩
  | 71 => ⟨S4x8x64x32x128, .f32⟩
  | 72 => ⟨S4x64x32x8x128, .f32⟩
  | 73 => ⟨S4x8x64x32x128, .f32⟩
  | 74 => ⟨S_, .f32⟩
  | 75 => ⟨S_, .f32⟩
  | 76 => ⟨S4x8x64x32x128, .f32⟩
  | 77 => ⟨S4x8x64x32x128, .f32⟩
  | 78 => ⟨S4x8x64x32x128, .f32⟩
  | 79 => ⟨S4x8x64x32x128, .f32⟩
  | 80 => ⟨S4x8x64x32x128, .f32⟩
  | 81 => ⟨S4x8x64x32x128, .f32⟩
  | 82 => ⟨S_, .i1⟩
  | 83 => ⟨S32x32, .i1⟩
  | 84 => ⟨S32x32, .i32⟩
  | 85 => ⟨S_, .i32⟩
  | 86 => ⟨S32x32, .i32⟩
  | 87 => ⟨S32x32, .i32⟩
  | 88 => ⟨S32x32, .i32⟩
  | 89 => ⟨S32x32, .i1⟩
  | 90 => ⟨S_, .i1⟩
  | 91 => ⟨S32x32, .i1⟩
  | 92 => ⟨S32x32, .i1⟩
  | 93 => ⟨S4x8x64x32x32, .f32⟩
  | 94 => ⟨S_, .f32⟩
  | 95 => ⟨S_, .f32⟩
  | 96 => ⟨S4x8x64x32x32, .i1⟩
  | 97 => ⟨S4x8x64x32x32, .f32⟩
  | 98 => ⟨S4x8x64x32x32, .f32⟩
  | 99 => ⟨S4x8x64x32x128, .f32⟩
  | 100 => ⟨S4x8x64x1x128, .f32⟩
  | 101 => ⟨S4x8x64x128, .f32⟩
  | 102 => ⟨S4x8x64x1x128, .f32⟩
  | 103 => ⟨S4x8x64x32x128, .f32⟩
  | 104 => ⟨S4x8x64x32x128, .f32⟩
  | 105 => ⟨S4x8x64x32x128, .f32⟩
  | 106 => ⟨S4x8x64x32x128, .f32⟩
  | 107 => ⟨S4x8x64x128x128, .f32⟩
  | 108 => ⟨S_, .f32⟩
  | 109 => ⟨S4x8x128x128, .f32⟩
  | 110 => ⟨S64x4x8x128x128, .f32⟩
  | 111 => ⟨S64x4x8x128, .f32⟩
  | 112 => ⟨S_, .f32⟩
  | 113 => ⟨S64x4x8x128x128, .f32⟩
  | 114 => ⟨S_, .i32⟩
  | 115 => ⟨S64x4x8x128x128, .f32⟩
  | 116 => ⟨S64x4x8x128, .f32⟩
  | 117 => ⟨S_, .i32⟩
  | 118 => ⟨S4x8x128x128, .f32⟩
  | 119 => ⟨S64x4x8x128x128, .f32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S1x4x8x128x128, .f32⟩
  | 127 => ⟨S4x8x128x128, .f32⟩
  | _ => ⟨S4x2048x7168, .f32⟩

abbrev hbmTy0_1 (i : Nat) : BufTy := match i % 128 with
  | 0 => ⟨S_, .i32⟩
  | 1 => ⟨S_, .i32⟩
  | 2 => ⟨S_, .i32⟩
  | 3 => ⟨S1x4x8x128, .f32⟩
  | 4 => ⟨S4x8x128, .f32⟩
  | 5 => ⟨S4x8x128, .f32⟩
  | 6 => ⟨S4x8x128x1, .f32⟩
  | 7 => ⟨S4x8x128x128, .f32⟩
  | 8 => ⟨S4x8x128x128, .f32⟩
  | 9 => ⟨S4x8x128x128, .f32⟩
  | 10 => ⟨S1x4x8x128x128, .f32⟩
  | 11 => ⟨S_, .i32⟩
  | 12 => ⟨S_, .i32⟩
  | 13 => ⟨S_, .i32⟩
  | 14 => ⟨S_, .i32⟩
  | 15 => ⟨S64x4x8x128x128, .f32⟩
  | 16 => ⟨S_, .i32⟩
  | 17 => ⟨S_, .i32⟩
  | 18 => ⟨S4x8x64x128x128, .f32⟩
  | 19 => ⟨S4x8x64x32x128, .f32⟩
  | 20 => ⟨S4x8x64x32x128, .f32⟩
  | 21 => ⟨S4x64x32x8x128, .f32⟩
  | 22 => ⟨S4x2048x8x128, .f32⟩
  | 23 => ⟨S4x2048x8x128, .f32⟩
  | 24 => ⟨S_, .f32⟩
  | 25 => ⟨S4x2048x8, .f32⟩
  | 26 => ⟨S4x2048x8x1, .f32⟩
  | 27 => ⟨S_, .f32⟩
  | 28 => ⟨S4x2048x8x1, .f32⟩
  | 29 => ⟨S4x2048x8x1, .f32⟩
  | 30 => ⟨S_, .f32⟩
  | 31 => ⟨S4x2048x8x1, .f32⟩
  | 32 => ⟨S4x2048x8x1, .f32⟩
  | 33 => ⟨S4x2048x8x1, .f32⟩
  | 34 => ⟨S4x2048x8x128, .f32⟩
  | 35 => ⟨S4x2048x8x128, .f32⟩
  | 36 => ⟨S1x1x1x128, .f32⟩
  | 37 => ⟨S4x2048x8x128, .f32⟩
  | 38 => ⟨S4x2048x8x128, .f32⟩
  | 39 => ⟨S4x2048x8x128, .f32⟩
  | 40 => ⟨S4x2048x8x128, .f32⟩
  | 41 => ⟨S4x2048x8x128, .f32⟩
  | 42 => ⟨S_, .f32⟩
  | 43 => ⟨S4x2048x8x128, .f32⟩
  | 44 => ⟨S4x2048x8x128, .f32⟩
  | 45 => ⟨S_, .f32⟩
  | 46 => ⟨S4x2048x8x128, .f32⟩
  | 47 => ⟨S4x2048x8x128, .f32⟩
  | 48 => ⟨S4x2048x8x128, .f32⟩
  | 49 => ⟨S4x2048x8x128, .f32⟩
  | 50 => ⟨S4x2048x1024, .f32⟩
  | 51 => ⟨S4x2048x1024, .bf16⟩
  | 52 => ⟨S2048x2048, .f32⟩
  | 53 => ⟨S2048x2048, .bf16⟩
  | _ => ⟨S4x2048x7168, .f32⟩

abbrev hbmTy (i : Nat) : BufTy := match i / 128 with
  | 0 => hbmTy0_0 i
  | 1 => hbmTy0_1 i
  | _ => ⟨S4x2048x7168, .f32⟩

abbrev bufTy : (tb : Table) → Fin (tcTables nBuf tb) → BufTy
  | .hbm, ⟨i, _⟩ => hbmTy i
  | _, _ => ⟨S4x2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call2_call0_cst : Ref sig .tc := ⟨.hbm, 74, rfl⟩
abbrev main_call2_call0_v0 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c : Ref sig .tc := ⟨.hbm, 82, rfl⟩
abbrev main_v59 : Ref sig .tc := ⟨.hbm, 83, rfl⟩
abbrev main_call3_v0 : Ref sig .tc := ⟨.hbm, 84, rfl⟩
abbrev main_call3_c : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_c_0 : Ref sig .tc := ⟨.hbm, 90, rfl⟩
abbrev main_call3_v5 : Ref sig .tc := ⟨.hbm, 91, rfl⟩
abbrev main_v60 : Ref sig .tc := ⟨.hbm, 92, rfl⟩
abbrev main_v61 : Ref sig .tc := ⟨.hbm, 93, rfl⟩
abbrev main_cst_6 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_7 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_8 : Ref sig .tc := ⟨.hbm, 112, rfl⟩
abbrev main_v75 : Ref sig .tc := ⟨.hbm, 113, rfl⟩
abbrev main_c_9 : Ref sig .tc := ⟨.hbm, 114, rfl⟩
abbrev main_v76_0 : Ref sig .tc := ⟨.hbm, 115, rfl⟩
abbrev main_v76_1 : Ref sig .tc := ⟨.hbm, 116, rfl⟩
abbrev main_v76_2 : Ref sig .tc := ⟨.hbm, 117, rfl⟩
abbrev main_v76_3 : Ref sig .tc := ⟨.hbm, 118, rfl⟩
abbrev main_v76_4 : Ref sig .tc := ⟨.hbm, 119, rfl⟩
abbrev main_while0c_c_17 : Ref sig .tc := ⟨.hbm, 120, rfl⟩
abbrev main_while0c_v102 : Ref sig .tc := ⟨.hbm, 121, rfl⟩
abbrev main_while0b_call5_c : Ref sig .tc := ⟨.hbm, 122, rfl⟩
abbrev main_while0b_call5_c_0 : Ref sig .tc := ⟨.hbm, 123, rfl⟩
abbrev main_while0b_call5_c_1 : Ref sig .tc := ⟨.hbm, 124, rfl⟩
abbrev main_while0b_call5_c_2 : Ref sig .tc := ⟨.hbm, 125, rfl⟩
abbrev main_while0b_call5_v0 : Ref sig .tc := ⟨.hbm, 126, rfl⟩
abbrev main_while0b_v102 : Ref sig .tc := ⟨.hbm, 127, rfl⟩
abbrev main_while0b_call6_c : Ref sig .tc := ⟨.hbm, 128, rfl⟩
abbrev main_while0b_call6_c_0 : Ref sig .tc := ⟨.hbm, 129, rfl⟩
abbrev main_while0b_call6_c_1 : Ref sig .tc := ⟨.hbm, 130, rfl⟩
abbrev main_while0b_call6_v0 : Ref sig .tc := ⟨.hbm, 131, rfl⟩
abbrev main_while0b_v103 : Ref sig .tc := ⟨.hbm, 132, rfl⟩
abbrev main_while0b_v104 : Ref sig .tc := ⟨.hbm, 133, rfl⟩
abbrev main_while0b_v105 : Ref sig .tc := ⟨.hbm, 134, rfl⟩
abbrev main_while0b_v106 : Ref sig .tc := ⟨.hbm, 135, rfl⟩
abbrev main_while0b_v107 : Ref sig .tc := ⟨.hbm, 136, rfl⟩
abbrev main_while0b_v108 : Ref sig .tc := ⟨.hbm, 137, rfl⟩
abbrev main_while0b_call7_v0 : Ref sig .tc := ⟨.hbm, 138, rfl⟩
abbrev main_while0b_call7_c : Ref sig .tc := ⟨.hbm, 139, rfl⟩
abbrev main_while0b_call7_c_0 : Ref sig .tc := ⟨.hbm, 140, rfl⟩
abbrev main_while0b_call7_c_1 : Ref sig .tc := ⟨.hbm, 141, rfl⟩
abbrev main_while0b_call7_c_2 : Ref sig .tc := ⟨.hbm, 142, rfl⟩
abbrev main_while0b_v109 : Ref sig .tc := ⟨.hbm, 143, rfl⟩
abbrev main_while0b_c_17 : Ref sig .tc := ⟨.hbm, 144, rfl⟩
abbrev main_while0b_v110 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_cst_10 : Ref sig .tc := ⟨.hbm, 152, rfl⟩
abbrev main_v83 : Ref sig .tc := ⟨.hbm, 153, rfl⟩
abbrev main_v84 : Ref sig .tc := ⟨.hbm, 154, rfl⟩
abbrev main_cst_11 : Ref sig .tc := ⟨.hbm, 155, rfl⟩
abbrev main_v85 : Ref sig .tc := ⟨.hbm, 156, rfl⟩
abbrev main_v86 : Ref sig .tc := ⟨.hbm, 157, rfl⟩
abbrev main_cst_12 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_call8_v0 : Ref sig .tc := ⟨.hbm, 168, rfl⟩
abbrev main_call8_v1 : Ref sig .tc := ⟨.hbm, 169, rfl⟩
abbrev main_call8_cst : Ref sig .tc := ⟨.hbm, 170, rfl⟩
abbrev main_call8_v2 : Ref sig .tc := ⟨.hbm, 171, rfl⟩
abbrev main_call8_v3 : Ref sig .tc := ⟨.hbm, 172, rfl⟩
abbrev main_call8_cst_0 : Ref sig .tc := ⟨.hbm, 173, rfl⟩
abbrev main_call8_v4 : Ref sig .tc := ⟨.hbm, 174, rfl⟩
abbrev main_call8_v5 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4x2048x2048 : Shape := ⟨3, ![4, 2048, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S2x1x11264 : Shape := ⟨3, ![2, 1, 11264]⟩
abbrev S4x2048x5632 : Shape := ⟨3, ![4, 2048, 5632]⟩
abbrev S5632x2048 : Shape := ⟨2, ![5632, 2048]⟩
abbrev S1x2048x2048 : Shape := ⟨3, ![1, 2048, 2048]⟩
abbrev S1x2048x512 : Shape := ⟨3, ![1, 2048, 512]⟩
abbrev S1x3x512 : Shape := ⟨3, ![1, 3, 512]⟩
abbrev S1x1x512 : Shape := ⟨3, ![1, 1, 512]⟩
abbrev S1x128x2048 : Shape := ⟨3, ![1, 128, 2048]⟩
abbrev S128x2048 : Shape := ⟨2, ![128, 2048]⟩
abbrev S520x512 : Shape := ⟨2, ![520, 512]⟩
abbrev S2048x512 : Shape := ⟨2, ![2048, 512]⟩
abbrev S3x512 : Shape := ⟨2, ![3, 512]⟩
abbrev S8x512 : Shape := ⟨2, ![8, 512]⟩
abbrev S1x512x2048 : Shape := ⟨3, ![1, 512, 2048]⟩
abbrev S512x2048 : Shape := ⟨2, ![512, 2048]⟩
abbrev S512x512 : Shape := ⟨2, ![512, 512]⟩
abbrev S1x512 : Shape := ⟨2, ![1, 512]⟩
abbrev S1x512x512 : Shape := ⟨3, ![1, 512, 512]⟩

abbrev nBuf : Space → Nat
  | .hbm => 8
  | .vmem => 22
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x11264, .f32⟩
  | .hbm, ⟨2, _⟩ => ⟨S2x3x11264, .f32⟩
  | .hbm, ⟨3, _⟩ => ⟨S2x11264, .f32⟩
  | .hbm, ⟨4, _⟩ => ⟨S2x5632x2048, .f32⟩
  | .hbm, ⟨5, _⟩ => ⟨S2x1x11264, .f32⟩
  | .hbm, ⟨6, _⟩ => ⟨S4x2048x5632, .bf16⟩
  | .hbm, ⟨7, _⟩ => ⟨S5632x2048, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x3x512, .f32⟩
  | .local _ .vmem, ⟨7, _⟩ => ⟨S1x3x512, .f32⟩
  | .local _ .vmem, ⟨8, _⟩ => ⟨S1x3x512, .f32⟩
  | .local _ .vmem, ⟨9, _⟩ => ⟨S1x3x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x128x2048, .f32⟩
  | .local _ .vmem, ⟨15, _⟩ => ⟨S1x128x2048, .f32⟩
  | .local _ .vmem, ⟨16, _⟩ => ⟨S1x2048x512, .bf16⟩
  | .local _ .vmem, ⟨17, _⟩ => ⟨S1x2048x512, .bf16⟩
  | .local _ .vmem, ⟨18, _⟩ => ⟨S128x2048, .bf16⟩
  | .local _ .vmem, ⟨19, _⟩ => ⟨S128x2048, .bf16⟩
  | .local _ .vmem, ⟨20, _⟩ => ⟨S520x512, .f32⟩
  | .local _ .vmem, ⟨21, _⟩ => ⟨S520x512, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c0_i32 : BitVec 32 := 0#32
  let c0_i32_0 : BitVec 32 := 0#32
  ![c1_i32.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S4x2048x2048 : Shape := ⟨3, ![4, 2048, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S1x2048x11264 : Shape := ⟨3, ![1, 2048, 11264]⟩
abbrev S2048x11264 : Shape := ⟨2, ![2048, 11264]⟩
abbrev S4x2048x11264 : Shape := ⟨3, ![4, 2048, 11264]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S_ : Shape := ⟨0, ![]⟩
abbrev S4x2050x11264 : Shape := ⟨3, ![4, 2050, 11264]⟩
abbrev S1x1x11264 : Shape := ⟨3, ![1, 1, 11264]⟩
abbrev S4x2048x5632 : Shape := ⟨3, ![4, 2048, 5632]⟩
abbrev S1x5632x2048 : Shape := ⟨3, ![1, 5632, 2048]⟩
abbrev S5632x2048 : Shape := ⟨2, ![5632, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x11264, .f32⟩
  | .hbm, ⟨2, _⟩ => ⟨S2x3x11264, .f32⟩
  | .hbm, ⟨3, _⟩ => ⟨S2x11264, .f32⟩
  | .hbm, ⟨4, _⟩ => ⟨S2x5632x2048, .f32⟩
  | .hbm, ⟨5, _⟩ => ⟨S4x2048x2048, .f32⟩
  | .hbm, ⟨6, _⟩ => ⟨S1x2048x11264, .f32⟩
  | .hbm, ⟨7, _⟩ => ⟨S2048x11264, .f32⟩
  | .hbm, ⟨8, _⟩ => ⟨S4x2048x11264, .f32⟩
  | .hbm, ⟨9, _⟩ => ⟨S1x3x11264, .f32⟩
  | .hbm, ⟨10, _⟩ => ⟨S3x11264, .f32⟩
  | .hbm, ⟨11, _⟩ => ⟨S1x11264, .f32⟩
  | .hbm, ⟨12, _⟩ => ⟨S11264, .f32⟩
  | .hbm, ⟨13, _⟩ => ⟨S_, .i32⟩
  | .hbm, ⟨14, _⟩ => ⟨S_, .f32⟩
  | .hbm, ⟨15, _⟩ => ⟨S4x2050x11264, .f32⟩
  | .hbm, ⟨16, _⟩ => ⟨S4x2048x11264, .f32⟩
  | .hbm, ⟨17, _⟩ => ⟨S1x11264, .f32⟩
  | .hbm, ⟨18, _⟩ => ⟨S11264, .f32⟩
  | .hbm, ⟨19, _⟩ => ⟨S1x1x11264, .f32⟩
  | .hbm, ⟨20, _⟩ => ⟨S4x2048x11264, .f32⟩
  | .hbm, ⟨21, _⟩ => ⟨S4x2048x11264, .f32⟩
  | .hbm, ⟨22, _⟩ => ⟨S4x2048x11264, .f32⟩
  | .hbm, ⟨23, _⟩ => ⟨S1x11264, .f32⟩
  | .hbm, ⟨24, _⟩ => ⟨S11264, .f32⟩
  | .hbm, ⟨25, _⟩ => ⟨S1x1x11264, .f32⟩
  | .hbm, ⟨26, _⟩ => ⟨S4x2048x11264, .f32⟩
  | .hbm, ⟨27, _⟩ => ⟨S4x2048x11264, .f32⟩
  | .hbm, ⟨28, _⟩ => ⟨S4x2048x11264, .f32⟩
  | .hbm, ⟨29, _⟩ => ⟨S4x2048x11264, .f32⟩
  | .hbm, ⟨30, _⟩ => ⟨S1x11264, .f32⟩
  | .hbm, ⟨31, _⟩ => ⟨S11264, .f32⟩
  | .hbm, ⟨32, _⟩ => ⟨S1x1x11264, .f32⟩
  | .hbm, ⟨33, _⟩ => ⟨S4x2048x11264, .f32⟩
  | .hbm, ⟨34, _⟩ => ⟨S4x2048x11264, .f32⟩
  | .hbm, ⟨35, _⟩ => ⟨S4x2048x11264, .f32⟩
  | .hbm, ⟨36, _⟩ => ⟨S1x1x11264, .f32⟩
  | .hbm, ⟨37, _⟩ => ⟨S4x2048x11264, .f32⟩
  | .hbm, ⟨38, _⟩ => ⟨S4x2048x11264, .f32⟩
  | .hbm, ⟨39, _⟩ => ⟨S4x2048x5632, .f32⟩
  | .hbm, ⟨40, _⟩ => ⟨S4x2048x5632, .f32⟩
  | .hbm, ⟨41, _⟩ => ⟨S4x2048x5632, .f32⟩
  | .hbm, ⟨42, _⟩ => ⟨S4x2048x5632, .f32⟩
  | .hbm, ⟨43, _⟩ => ⟨S_, .f32⟩
  | .hbm, ⟨44, _⟩ => ⟨S4x2048x5632, .f32⟩
  | .hbm, ⟨45, _⟩ => ⟨S4x2048x5632, .f32⟩
  | .hbm, ⟨46, _⟩ => ⟨S_, .f32⟩
  | .hbm, ⟨47, _⟩ => ⟨S4x2048x5632, .f32⟩
  | .hbm, ⟨48, _⟩ => ⟨S4x2048x5632, .f32⟩
  | .hbm, ⟨49, _⟩ => ⟨S4x2048x5632, .f32⟩
  | .hbm, ⟨50, _⟩ => ⟨S4x2048x5632, .f32⟩
  | .hbm, ⟨51, _⟩ => ⟨S4x2048x5632, .bf16⟩
  | .hbm, ⟨52, _⟩ => ⟨S1x5632x2048, .f32⟩
  | .hbm, ⟨53, _⟩ => ⟨S5632x2048, .f32⟩
  | .hbm, ⟨54, _⟩ => ⟨S5632x2048, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel3.lean ====
abbrev S8192x5632 : Shape := ⟨2, ![8192, 5632]⟩
abbrev S5632x2048 : Shape := ⟨2, ![5632, 2048]⟩
abbrev S8192x2048 : Shape := ⟨2, ![8192, 2048]⟩
abbrev S1x5632x2048 : Shape := ⟨3, ![1, 5632, 2048]⟩
abbrev S1024x5632 : Shape := ⟨2, ![1024, 5632]⟩
abbrev S1x5632x512 : Shape := ⟨3, ![1, 5632, 512]⟩
abbrev S1024x512 : Shape := ⟨2, ![1024, 512]⟩
abbrev S5632x512 : Shape := ⟨2, ![5632, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x5632x2048, .bf16⟩
  | .hbm, ⟨4, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4x2048x2048 : Shape := ⟨3, ![4, 2048, 2048]⟩
abbrev S1x2048x7168 : Shape := ⟨3, ![1, 2048, 7168]⟩
abbrev S4x2048x7168 : Shape := ⟨3, ![4, 2048, 7168]⟩
abbrev S1x2048x2048 : Shape := ⟨3, ![1, 2048, 2048]⟩
abbrev S1x2048x512 : Shape := ⟨3, ![1, 2048, 512]⟩
abbrev S2048x512 : Shape := ⟨2, ![2048, 512]⟩
abbrev S1x512x2048 : Shape := ⟨3, ![1, 512, 2048]⟩
abbrev S512x2048 : Shape := ⟨2, ![512, 2048]⟩
abbrev S512x512 : Shape := ⟨2, ![512, 512]⟩
abbrev S1x512x512 : Shape := ⟨3, ![1, 512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x2048, .bf16⟩
  | .hbm, ⟨1, _⟩ => ⟨S1x2048x7168, .f32⟩
  | .hbm, ⟨2, _⟩ => ⟨S4x2048x7168, .f32⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 14], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4x2048x2048 : Shape := ⟨3, ![4, 2048, 2048]⟩
abbrev S1x2048x7168 : Shape := ⟨3, ![1, 2048, 7168]⟩
abbrev S2048x7168 : Shape := ⟨2, ![2048, 7168]⟩
abbrev S4x2048x7168 : Shape := ⟨3, ![4, 2048, 7168]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S1x2048x7168, .f32⟩
  | .hbm, ⟨2, _⟩ => ⟨S4x2048x2048, .f32⟩
  | .hbm, ⟨3, _⟩ => ⟨S2048x7168, .f32⟩
  | .hbm, ⟨4, _⟩ => ⟨S4x2048x7168, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S8192x1024 : Shape := ⟨2, ![8192, 1024]⟩
abbrev S2048x2048 : Shape := ⟨2, ![2048, 2048]⟩
abbrev S8192x2048 : Shape := ⟨2, ![8192, 2048]⟩
abbrev S1x2048x2048 : Shape := ⟨3, ![1, 2048, 2048]⟩
abbrev S512x1024 : Shape := ⟨2, ![512, 1024]⟩
abbrev S1x1024x2048 : Shape := ⟨3, ![1, 1024, 2048]⟩
abbrev S512x2048 : Shape := ⟨2, ![512, 2048]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S1x2048x2048, .bf16⟩
  | .hbm, ⟨5, _⟩ => ⟨S1x2048x2048, .bf16⟩
  | .hbm, ⟨6, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8192x1024 : Shape := ⟨2, ![8192, 1024]⟩
abbrev S2048x2048 : Shape := ⟨2, ![2048, 2048]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S8192x2048, .bf16⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel6.lean ====
abbrev S4x2048x2048 : Shape := ⟨3, ![4, 2048, 2048]⟩
abbrev S2048 : Shape := ⟨1, ![2048]⟩
abbrev S2x2048x512 : Shape := ⟨3, ![2, 2048, 512]⟩
abbrev S2x4x256x512 : Shape := ⟨4, ![2, 4, 256, 512]⟩
abbrev S2x512x2048 : Shape := ⟨3, ![2, 512, 2048]⟩
abbrev S128 : Shape := ⟨1, ![128]⟩
abbrev S1x2048 : Shape := ⟨2, ![1, 2048]⟩
abbrev S1x128 : Shape := ⟨2, ![1, 128]⟩
abbrev S1x512x2048 : Shape := ⟨3, ![1, 512, 2048]⟩
abbrev S1x2048x512 : Shape := ⟨3, ![1, 2048, 512]⟩
abbrev S1x1x256x512 : Shape := ⟨4, ![1, 1, 256, 512]⟩
abbrev S2048x512 : Shape := ⟨2, ![2048, 512]⟩
abbrev S512x2048 : Shape := ⟨2, ![512, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S1x1x256x128 : Shape := ⟨4, ![1, 1, 256, 128]⟩
abbrev S256x256 : Shape := ⟨2, ![256, 256]⟩

abbrev nBuf : Space → Nat
  | .hbm => 13
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2x2048x512, .f32⟩
  | .hbm, ⟨3, _⟩ => ⟨S2x4x256x512, .bf16⟩
  | .hbm, ⟨4, _⟩ => ⟨S2x4x256x512, .bf16⟩
  | .hbm, ⟨5, _⟩ => ⟨S2x512x2048, .f32⟩
  | .hbm, ⟨6, _⟩ => ⟨S128, .f32⟩
  | .hbm, ⟨7, _⟩ => ⟨S2048, .f32⟩
  | .hbm, ⟨8, _⟩ => ⟨S1x2048, .f32⟩
  | .hbm, ⟨9, _⟩ => ⟨S1x128, .f32⟩
  | .hbm, ⟨10, _⟩ => ⟨S1x2048, .f32⟩
  | .hbm, ⟨11, _⟩ => ⟨S4x2048x2048, .f32⟩
  | .hbm, ⟨12, _⟩ => ⟨S4x2048x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x2048x512, .f32⟩
  | .local _ .vmem, ⟨4, _⟩ => ⟨S1x1x256x512, .bf16⟩
  | .local _ .vmem, ⟨5, _⟩ => ⟨S1x1x256x512, .bf16⟩
  | .local _ .vmem, ⟨6, _⟩ => ⟨S1x1x256x512, .bf16⟩
  | .local _ .vmem, ⟨7, _⟩ => ⟨S1x1x256x512, .bf16⟩
  | .local _ .vmem, ⟨8, _⟩ => ⟨S1x512x2048, .f32⟩
  | .local _ .vmem, ⟨9, _⟩ => ⟨S1x128, .f32⟩
  | .local _ .vmem, ⟨10, _⟩ => ⟨S1x2048, .f32⟩
  | .local _ .vmem, ⟨11, _⟩ => ⟨S1x512x2048, .f32⟩
  | .local _ .vmem, ⟨12, _⟩ => ⟨S1x512x2048, .f32⟩
  | .local _ .vmem, ⟨13, _⟩ => ⟨S1x512x2048, .bf16⟩
  | .local _ .vmem, ⟨14, _⟩ => ⟨S1x512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel6Ideal.lean ====
variable {F : FTy → Type} [FloatOps F] [Named F]
def κ : String → Option EReal := fun
  | "inv_sqrt_d" => some (((Real.sqrt 128)⁻¹ : ℝ) : EReal)
  | _ => none
-- ==== Reference6Ideal.lean ====
abbrev S4x2048x2048 : Shape := ⟨3, ![4, 2048, 2048]⟩
abbrev S2048 : Shape := ⟨1, ![2048]⟩
abbrev S2x2048x512 : Shape := ⟨3, ![2, 2048, 512]⟩
abbrev S2x4x256x512 : Shape := ⟨4, ![2, 4, 256, 512]⟩
abbrev S2x512x2048 : Shape := ⟨3, ![2, 512, 2048]⟩
abbrev S128 : Shape := ⟨1, ![128]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S1x2048x512 : Shape := ⟨3, ![1, 2048, 512]⟩
abbrev S2048x512 : Shape := ⟨2, ![2048, 512]⟩
abbrev S4x2048x512 : Shape := ⟨3, ![4, 2048, 512]⟩
abbrev S4x2048x4x128 : Shape := ⟨4, ![4, 2048, 4, 128]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩
abbrev S1x4x256x512 : Shape := ⟨4, ![1, 4, 256, 512]⟩
abbrev S4x256x512 : Shape := ⟨3, ![4, 256, 512]⟩
abbrev S4x256x4x128 : Shape := ⟨4, ![4, 256, 4, 128]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S1x512x2048 : Shape := ⟨3, ![1, 512, 2048]⟩
abbrev S512x2048 : Shape := ⟨2, ![512, 2048]⟩

abbrev nBuf : Space → Nat
  | .hbm => 95
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2x2048x512, .f32⟩
  | .hbm, ⟨3, _⟩ => ⟨S2x4x256x512, .bf16⟩
  | .hbm, ⟨4, _⟩ => ⟨S2x4x256x512, .bf16⟩
  | .hbm, ⟨5, _⟩ => ⟨S2x512x2048, .f32⟩
  | .hbm, ⟨6, _⟩ => ⟨S128, .f32⟩
  | .hbm, ⟨7, _⟩ => ⟨S2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S1x2048x512, .f32⟩
  | .hbm, ⟨25, _⟩ => ⟨S2048x512, .f32⟩
  | .hbm, ⟨26, _⟩ => ⟨S4x2048x512, .f32⟩
  | .hbm, ⟨27, _⟩ => ⟨S4x2048x4x128, .f32⟩
  | .hbm, ⟨28, _⟩ => ⟨S4x2048x4x128, .f32⟩
  | .hbm, ⟨29, _⟩ => ⟨S_, .f32⟩
  | .hbm, ⟨30, _⟩ => ⟨S4x2048x4, .f32⟩
  | .hbm, ⟨31, _⟩ => ⟨S4x2048x4x1, .f32⟩
  | .hbm, ⟨32, _⟩ => ⟨S_, .f32⟩
  | .hbm, ⟨33, _⟩ => ⟨S4x2048x4x1, .f32⟩
  | .hbm, ⟨34, _⟩ => ⟨S4x2048x4x1, .f32⟩
  | .hbm, ⟨35, _⟩ => ⟨S_, .f32⟩
  | .hbm, ⟨36, _⟩ => ⟨S4x2048x4x1, .f32⟩
  | .hbm, ⟨37, _⟩ => ⟨S4x2048x4x1, .f32⟩
  | .hbm, ⟨38, _⟩ => ⟨S4x2048x4x1, .f32⟩
  | .hbm, ⟨39, _⟩ => ⟨S4x2048x4x128, .f32⟩
  | .hbm, ⟨40, _⟩ => ⟨S4x2048x4x128, .f32⟩
  | .hbm, ⟨41, _⟩ => ⟨S1x1x1x128, .f32⟩
  | .hbm, ⟨42, _⟩ => ⟨S4x2048x4x128, .f32⟩
  | .hbm, ⟨43, _⟩ => ⟨S4x2048x4x128, .f32⟩
  | .hbm, ⟨44, _⟩ => ⟨S1x4x256x512, .bf16⟩
  | .hbm, ⟨45, _⟩ => ⟨S4x256x512, .bf16⟩
  | .hbm, ⟨46, _⟩ => ⟨S4x256x512, .f32⟩
  | .hbm, ⟨47, _⟩ => ⟨S4x256x4x128, .f32⟩
  | .hbm, ⟨48, _⟩ => ⟨S1x4x256x512, .bf16⟩
  | .hbm, ⟨49, _⟩ => ⟨S4x256x512, .bf16⟩
  | .hbm, ⟨50, _⟩ => ⟨S4x256x512, .f32⟩
  | .hbm, ⟨51, _⟩ => ⟨S4x256x4x128, .f32⟩
  | .hbm, ⟨52, _⟩ => ⟨S4x4x2048x256, .f32⟩
  | .hbm, ⟨53, _⟩ => ⟨S_, .f32⟩
  | .hbm, ⟨54, _⟩ => ⟨S_, .f32⟩
  | .hbm, ⟨55, _⟩ => ⟨S4x4x2048x256, .f32⟩
  | .hbm, ⟨56, _⟩ => ⟨S4x4x2048x256, .f32⟩
  | .hbm, ⟨57, _⟩ => ⟨S_, .f32⟩
  | .hbm, ⟨58, _⟩ => ⟨S4x4x2048, .f32⟩
  | .hbm, ⟨59, _⟩ => ⟨S_, .f32⟩
  | .hbm, ⟨60, _⟩ => ⟨S4x4x2048, .f32⟩
  | .hbm, ⟨61, _⟩ => ⟨S4x4x2048, .f32⟩
  | .hbm, ⟨62, _⟩ => ⟨S4x4x2048x1, .f32⟩
  | .hbm, ⟨63, _⟩ => ⟨S4x4x2048x256, .f32⟩
  | .hbm, ⟨64, _⟩ => ⟨S4x4x2048x256, .f32⟩
  | .hbm, ⟨65, _⟩ => ⟨S4x4x2048x256, .f32⟩
  | .hbm, ⟨66, _⟩ => ⟨S_, .f32⟩
  | .hbm, ⟨67, _⟩ => ⟨S4x4x2048, .f32⟩
  | .hbm, ⟨68, _⟩ => ⟨S4x4x2048x1, .f32⟩
  | .hbm, ⟨69, _⟩ => ⟨S4x4x2048x256, .f32⟩
  | .hbm, ⟨70, _⟩ => ⟨S4x4x2048x256, .f32⟩
  | .hbm, ⟨71, _⟩ => ⟨S4x4x128x2048, .f32⟩
  | .hbm, ⟨72, _⟩ => ⟨S4x2048x4x128, .f32⟩
  | .hbm, ⟨73, _⟩ => ⟨S4x2048x512, .f32⟩
  | .hbm, ⟨74, _⟩ => ⟨S1x512x2048, .f32⟩
  | .hbm, ⟨75, _⟩ => ⟨S512x2048, .f32⟩
  | .hbm, ⟨76, _⟩ => ⟨S4x2048x2048, .f32⟩
  | .hbm, ⟨77, _⟩ => ⟨S4x2048x2048, .f32⟩
  | .hbm, ⟨78, _⟩ => ⟨S4x2048x2048, .f32⟩
  | .hbm, ⟨79, _⟩ => ⟨S_, .f32⟩
  | .hbm, ⟨80, _⟩ => ⟨S4x2048, .f32⟩
  | .hbm, ⟨81, _⟩ => ⟨S4x2048x1, .f32⟩
  | .hbm, ⟨82, _⟩ => ⟨S_, .f32⟩
  | .hbm, ⟨83, _⟩ => ⟨S4x2048x1, .f32⟩
  | .hbm, ⟨84, _⟩ => ⟨S4x2048x1, .f32⟩
  | .hbm, ⟨85, _⟩ => ⟨S_, .f32⟩
  | .hbm, ⟨86, _⟩ => ⟨S4x2048x1, .f32⟩
  | .hbm, ⟨87, _⟩ => ⟨S4x2048x1, .f32⟩
  | .hbm, ⟨88, _⟩ => ⟨S4x2048x1, .f32⟩
  | .hbm, ⟨89, _⟩ => ⟨S4x2048x2048, .f32⟩
  | .hbm, ⟨90, _⟩ => ⟨S4x2048x2048, .f32⟩
  | .hbm, ⟨91, _⟩ => ⟨S1x1x2048, .f32⟩
  | .hbm, ⟨92, _⟩ => ⟨S4x2048x2048, .f32⟩
  | .hbm, ⟨93, _⟩ => ⟨S4x2048x2048, .f32⟩
  | .hbm, ⟨94, _⟩ => ⟨S4x2048x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩
abbrev main_cst_10 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩

abbrev nD : Nat := 1
abbrev τ : Topo := Topo.v7x

variable {F : FTy → Type} [FloatOps F]
-- ==== Kernel7.lean ====
abbrev S4x2048x2048 : Shape := ⟨3, ![4, 2048, 2048]⟩
abbrev S1x2048x6688 : Shape := ⟨3, ![1, 2048, 6688]⟩
abbrev S1x4x3072 : Shape := ⟨3, ![1, 4, 3072]⟩
abbrev S1x6688x2048 : Shape := ⟨3, ![1, 6688, 2048]⟩
abbrev S4x3072 : Shape := ⟨2, ![4, 3072]⟩
abbrev S4x2048x3072 : Shape := ⟨3, ![4, 2048, 3072]⟩
abbrev S1x2048x2048 : Shape := ⟨3, ![1, 2048, 2048]⟩
abbrev S1x512x2048 : Shape := ⟨3, ![1, 512, 2048]⟩
abbrev S4x512 : Shape := ⟨2, ![4, 512]⟩
abbrev S1x2048x512 : Shape := ⟨3, ![1, 2048, 512]⟩
abbrev S520x512 : Shape := ⟨2, ![520, 512]⟩
abbrev S512x2048 : Shape := ⟨2, ![512, 2048]⟩
abbrev S8x512 : Shape := ⟨2, ![8, 512]⟩
abbrev S512x512 : Shape := ⟨2, ![512, 512]⟩
abbrev S1x512 : Shape := ⟨2, ![1, 512]⟩
abbrev S1x512x512 : Shape := ⟨3, ![1, 512, 512]⟩

abbrev nBuf : Space → Nat
  | .hbm => 6
  | .vmem => 9
  | .smem => 0
  | _ => 0

abbrev bufTy : (tb : Table) → Fin (tcTables nBuf tb) → BufTy
  | .hbm, ⟨0, _⟩ => ⟨S4x2048x2048, .bf16⟩
  | .hbm, ⟨1, _⟩ => ⟨S1x2048x6688, .f32⟩
  | .hbm, ⟨2, _⟩ => ⟨S1x4x3072, .f32⟩
  | .hbm, ⟨3, _⟩ => ⟨S1x6688x2048, .f32⟩
  | .hbm, ⟨4, _⟩ => ⟨S4x3072, .f32⟩
  | .hbm, ⟨5, _⟩ => ⟨S4x2048x3072, .f32⟩
  | .local _ .vmem, ⟨0, _⟩ => ⟨S1x2048x2048, .bf16⟩
  | .local _ .vmem, ⟨1, _⟩ => ⟨S1x2048x2048, .bf16⟩
  | .local _ .vmem, ⟨2, _⟩ => ⟨S1x512x2048, .f32⟩
  | .local _ .vmem, ⟨3, _⟩ => ⟨S1x512x2048, .f32⟩
  | .local _ .vmem, ⟨4, _⟩ => ⟨S4x512, .f32⟩
  | .local _ .vmem, ⟨5, _⟩ => ⟨S4x512, .f32⟩
  | .local _ .vmem, ⟨6, _⟩ => ⟨S1x2048x512, .f32⟩
  | .local _ .vmem, ⟨7, _⟩ => ⟨S1x2048x512, .f32⟩
  | .local _ .vmem, ⟨8, _⟩ => ⟨S520x512, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4x2048x2048 : Shape := ⟨3, ![4, 2048, 2048]⟩
abbrev S1x2048x6688 : Shape := ⟨3, ![1, 2048, 6688]⟩
abbrev S1x4x3072 : Shape := ⟨3, ![1, 4, 3072]⟩
abbrev S2048x6688 : Shape := ⟨2, ![2048, 6688]⟩
abbrev S4x2048x6688 : Shape := ⟨3, ![4, 2048, 6688]⟩
abbrev S4x2048x3072 : Shape := ⟨3, ![4, 2048, 3072]⟩
abbrev S4x3072 : Shape := ⟨2, ![4, 3072]⟩
abbrev S_ : Shape := ⟨0, ![]⟩
abbrev S4x2051x3072 : Shape := ⟨3, ![4, 2051, 3072]⟩
abbrev S1x3072 : Shape := ⟨2, ![1, 3072]⟩
abbrev S3072 : Shape := ⟨1, ![3072]⟩
abbrev S1x1x3072 : Shape := ⟨3, ![1, 1, 3072]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S1x2048x6688, .f32⟩
  | .hbm, ⟨2, _⟩ => ⟨S1x4x3072, .f32⟩
  | .hbm, ⟨3, _⟩ => ⟨S4x2048x2048, .f32⟩
  | .hbm, ⟨4, _⟩ => ⟨S2048x6688, .f32⟩
  | .hbm, ⟨5, _⟩ => ⟨S4x2048x6688, .f32⟩
  | .hbm, ⟨6, _⟩ => ⟨S4x2048x3072, .f32⟩
  | .hbm, ⟨7, _⟩ => ⟨S4x3072, .f32⟩
  | .hbm, ⟨8, _⟩ => ⟨S_, .i32⟩
  | .hbm, ⟨9, _⟩ => ⟨S_, .f32⟩
  | .hbm, ⟨10, _⟩ => ⟨S4x2051x3072, .f32⟩
  | .hbm, ⟨11, _⟩ => ⟨S4x2048x3072, .f32⟩
  | .hbm, ⟨12, _⟩ => ⟨S1x3072, .f32⟩
  | .hbm, ⟨13, _⟩ => ⟨S3072, .f32⟩
  | .hbm, ⟨14, _⟩ => ⟨S1x1x3072, .f32⟩
  | .hbm, ⟨15, _⟩ => ⟨S4x2048x3072, .f32⟩
  | .hbm, ⟨16, _⟩ => ⟨S4x2048x3072, .f32⟩
  | .hbm, ⟨17, _⟩ => ⟨S4x2048x3072, .f32⟩
  | .hbm, ⟨18, _⟩ => ⟨S1x3072, .f32⟩
  | .hbm, ⟨19, _⟩ => ⟨S3072, .f32⟩
  | .hbm, ⟨20, _⟩ => ⟨S1x1x3072, .f32⟩
  | .hbm, ⟨21, _⟩ => ⟨S4x2048x3072, .f32⟩
  | .hbm, ⟨22, _⟩ => ⟨S4x2048x3072, .f32⟩
  | .hbm, ⟨23, _⟩ => ⟨S4x2048x3072, .f32⟩
  | .hbm, ⟨24, _⟩ => ⟨S4x2048x3072, .f32⟩
  | .hbm, ⟨25, _⟩ => ⟨S1x3072, .f32⟩
  | .hbm, ⟨26, _⟩ => ⟨S3072, .f32⟩
  | .hbm, ⟨27, _⟩ => ⟨S1x1x3072, .f32⟩
  | .hbm, ⟨28, _⟩ => ⟨S4x2048x3072, .f32⟩
  | .hbm, ⟨29, _⟩ => ⟨S4x2048x3072, .f32⟩
  | .hbm, ⟨30, _⟩ => ⟨S4x2048x3072, .f32⟩
  | .hbm, ⟨31, _⟩ => ⟨S4x2048x3072, .f32⟩
  | .hbm, ⟨32, _⟩ => ⟨S1x3072, .f32⟩
  | .hbm, ⟨33, _⟩ => ⟨S3072, .f32⟩
  | .hbm, ⟨34, _⟩ => ⟨S1x1x3072, .f32⟩
  | .hbm, ⟨35, _⟩ => ⟨S4x2048x3072, .f32⟩
  | .hbm, ⟨36, _⟩ => ⟨S4x2048x3072, .f32⟩
  | .hbm, ⟨37, _⟩ => ⟨S4x2048x3072, .f32⟩
  | .hbm, ⟨38, _⟩ => ⟨S4x2048x3072, .f32⟩
  | .hbm, ⟨39, _⟩ => ⟨S4x2048x3072, .f32⟩
  | .hbm, ⟨40, _⟩ => ⟨S_, .f32⟩
  | .hbm, ⟨41, _⟩ => ⟨S4x2048x3072, .f32⟩
  | .hbm, ⟨42, _⟩ => ⟨S4x2048x3072, .f32⟩
  | .hbm, ⟨43, _⟩ => ⟨S_, .f32⟩
  | .hbm, ⟨44, _⟩ => ⟨S4x2048x3072, .f32⟩
  | .hbm, ⟨45, _⟩ => ⟨S4x2048x3072, .f32⟩
  | .hbm, ⟨46, _⟩ => ⟨S4x2048x3072, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel8.lean ====
abbrev S4x2048x2048 : Shape := ⟨3, ![4, 2048, 2048]⟩
abbrev S1x2048x6688 : Shape := ⟨3, ![1, 2048, 6688]⟩
abbrev S1x6688x2048 : Shape := ⟨3, ![1, 6688, 2048]⟩
abbrev S4x2048x1024 : Shape := ⟨3, ![4, 2048, 1024]⟩
abbrev S1x2048x2048 : Shape := ⟨3, ![1, 2048, 2048]⟩
abbrev S1x512x2048 : Shape := ⟨3, ![1, 512, 2048]⟩
abbrev S1x2048x512 : Shape := ⟨3, ![1, 2048, 512]⟩
abbrev S512x2048 : Shape := ⟨2, ![512, 2048]⟩
abbrev S512x512 : Shape := ⟨2, ![512, 512]⟩
abbrev S1x512x512 : Shape := ⟨3, ![1, 512, 512]⟩

abbrev nBuf : Space → Nat
  | .hbm => 4
  | .vmem => 6
  | .smem => 0
  | _ => 0

abbrev bufTy : (tb : Table) → Fin (tcTables nBuf tb) → BufTy
  | .hbm, ⟨0, _⟩ => ⟨S4x2048x2048, .bf16⟩
  | .hbm, ⟨1, _⟩ => ⟨S1x2048x6688, .f32⟩
  | .hbm, ⟨2, _⟩ => ⟨S1x6688x2048, .f32⟩
  | .hbm, ⟨3, _⟩ => ⟨S4x2048x1024, .f32⟩
  | .local _ .vmem, ⟨0, _⟩ => ⟨S1x2048x2048, .bf16⟩
  | .local _ .vmem, ⟨1, _⟩ => ⟨S1x2048x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x2048x512, .f32⟩
  | .local _ .vmem, ⟨5, _⟩ => ⟨S1x2048x512, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4x2048x2048 : Shape := ⟨3, ![4, 2048, 2048]⟩
abbrev S1x2048x6688 : Shape := ⟨3, ![1, 2048, 6688]⟩
abbrev S2048x6688 : Shape := ⟨2, ![2048, 6688]⟩
abbrev S4x2048x6688 : Shape := ⟨3, ![4, 2048, 6688]⟩
abbrev S4x2048x1024 : Shape := ⟨3, ![4, 2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S1x2048x6688, .f32⟩
  | .hbm, ⟨2, _⟩ => ⟨S4x2048x2048, .f32⟩
  | .hbm, ⟨3, _⟩ => ⟨S2048x6688, .f32⟩
  | .hbm, ⟨4, _⟩ => ⟨S4x2048x6688, .f32⟩
  | .hbm, ⟨5, _⟩ => ⟨S4x2048x1024, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.FfnTaps.lean ====
/- The feed-forward block's first product inside one grid point of `Kernel2`: the scratch buffers hold a chunk of 512 rows of the
   product after the eight rows before it, so that the loads one and two rows up are the convolution's taps. -/
module

public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfnProj

open Cert.Kernel2Ideal Cert.Kernel2Ideal.Gen Idealize.ShloMosaic Idealize.ShloMosaic.TcCoe Idealize.SL.Sem

/-- Row `s`, column `n` of the product of the activations' block and a weight block. -/
def prod (X : Vec Ideal S1x2048x2048 .bf16) (W : Vec Ideal S1x2048x512 .f32) (s : ℕ) (n : Fin 512) : EReal :=
  if h : s < 2048 then ∑ k : Fin 2048, (X (ix3 0 ⟨s, h⟩ k) : EReal) * (W (ix3 0 k n) : EReal) else 0

/-- The product's row `k` before row `s`; zero before the sequence begins. -/
def tap (X : Vec Ideal S1x2048x2048 .bf16) (W : Vec Ideal S1x2048x512 .f32) (k s : ℕ) (n : Fin 512) : EReal :=
  if s < k then 0 else prod X W (s - k) n

/-- Chunk `c` of the rows of a tap: 512 rows. -/
def tapv (X : Vec Ideal S1x2048x2048 .bf16) (W : Vec Ideal S1x2048x512 .f32) (k c : ℕ) : Vec Ideal S512x512 .f32 :=
  fun j => tap X W k (512 * c + (j 0).val) (j 1)

/-- The eight rows before chunk `c`. -/
def tailv (X : Vec Ideal S1x2048x2048 .bf16) (W : Vec Ideal S1x2048x512 .f32) (c : ℕ) : Vec Ideal S8x512 .f32 :=
  fun j => tap X W 8 (512 * c + (j 0).val) (j 1)

/-- A tap is an earlier row of the product when there is one. -/
theorem tap_shift (X : Vec Ideal S1x2048x2048 .bf16) (W : Vec Ideal S1x2048x512 .f32) (k k' s s' : ℕ) (n n' : Fin 512) (hn : n = n') (h : s + k' = s' + k) :
    tap X W k s n = tap X W k' s' n' := by
  subst hn
  unfold tap
  by_cases hs : s < k
  · rw [if_pos hs, if_pos (by omega)]
  · rw [if_neg hs, if_neg (by omega), show s - k = s' - k' by omega]

section
variable {κ : Kind} {sp : Space} {sig : RefSig} (v : View sig κ sp S520x512 .f32) (X : Vec Ideal S1x2048x2048 .bf16) (W : Vec Ideal S1x2048x512 .f32)
  (L : List (View.Piece (Elt Ideal) S520x512 .f32)) (c : ℕ)

/-- What the scratch holds after the two stores of a chunk: from row 8 the chunk, before it the eight rows before. -/
theorem canon_row :
    View.canon (⟨Rect.unit ![8, 0] ![512, 512] inb_S520x512_S512x512_8_0, tapv X W 0 c⟩ :: ⟨Rect.unit ![0, 0] ![8, 512] inb_S520x512_S8x512_0_0, tailv X W c⟩ :: L)
      = fun i => tap X W 8 (512 * c + (i 0).val) (i 1) := by
  funext i
  have hi := (i 0).isLt
  change _ < 520 at hi
  refine View.canon_append_of_piecesOf (fun i => tap X W 8 (512 * c + (i 0).val) (i 1)) L [_, _] ⟨fun x => ?_, fun x => ?_, trivial⟩ i ?_
  · show tap X W 0 (512 * c + (x 0).val) (x 1) = tap X W 8 (512 * c + ((Rect.unit (s := S520x512) ![8, 0] ![512, 512] inb_S520x512_S512x512_8_0).emb x 0).val) ((Rect.unit (s := S520x512) ![8, 0] ![512, 512] inb_S520x512_S512x512_8_0).emb x 1)
    refine tap_shift X W _ _ _ _ _ _ (Fin.ext ?_) ?_ <;> simp [Rect.emb, Rect.unit] <;> omega
  · show tap X W 8 (512 * c + (x 0).val) (x 1) = tap X W 8 (512 * c + ((Rect.unit (s := S520x512) ![0, 0] ![8, 512] inb_S520x512_S8x512_0_0).emb x 0).val) ((Rect.unit (s := S520x512) ![0, 0] ![8, 512] inb_S520x512_S8x512_0_0).emb x 1)
    refine tap_shift X W _ _ _ _ _ _ (Fin.ext ?_) ?_ <;> simp [Rect.emb, Rect.unit]
  · by_cases h : 8 ≤ (i 0).val
    · exact ⟨_, List.mem_cons_self .., by simp [Rect.mem_set_unit, Fin.forall_fin_two]; omega⟩
    · exact ⟨_, List.mem_cons_of_mem _ (List.mem_cons_self ..), by simp [Rect.mem_set_unit, Fin.forall_fin_two]; omega⟩

/-- The load of 512 rows from row 7 of the scratch. -/
theorem read_1 : v.readCov (⟨Rect.unit ![8, 0] ![512, 512] inb_S520x512_S512x512_8_0, tapv X W 0 c⟩ :: ⟨Rect.unit ![0, 0] ![8, 512] inb_S520x512_S8x512_0_0, tailv X W c⟩ :: L)
      (Rect.unit ![7, 0] ![512, 512] inb_S520x512_S512x512_7_0).toLoadRect = tapv X W 1 c := by
  rw [View.readCov_eq_canon', canon_row]
  funext j
  refine tap_shift X W _ _ _ _ _ _ (Fin.ext ?_) ?_ <;> simp [Rect.emb, Rect.unit, Rect.toLoadRect, LoadRect.idx] <;> omega

/-- The load of 512 rows from row 6 of the scratch. -/
theorem read_2 : v.readCov (⟨Rect.unit ![8, 0] ![512, 512] inb_S520x512_S512x512_8_0, tapv X W 0 c⟩ :: ⟨Rect.unit ![0, 0] ![8, 512] inb_S520x512_S8x512_0_0, tailv X W c⟩ :: L)
      (Rect.unit ![6, 0] ![512, 512] inb_S520x512_S512x512_6_0).toLoadRect = tapv X W 2 c := by
  rw [View.readCov_eq_canon', canon_row]
  funext j
  refine tap_shift X W _ _ _ _ _ _ (Fin.ext ?_) ?_ <;> simp [Rect.emb, Rect.unit, Rect.toLoadRect, LoadRect.idx] <;> omega

/-- The load of 8 rows from row 512 of the scratch. -/
theorem read_t : v.readCov (⟨Rect.unit ![8, 0] ![512, 512] inb_S520x512_S512x512_8_0, tapv X W 0 c⟩ :: ⟨Rect.unit ![0, 0] ![8, 512] inb_S520x512_S8x512_0_0, tailv X W c⟩ :: L)
      (Rect.unit ![512, 0] ![8, 512] inb_S520x512_S8x512_512_0).toLoadRect = tailv X W (c + 1) := by
  rw [View.readCov_eq_canon', canon_row]
  funext j
  refine tap_shift X W _ _ _ _ _ _ (Fin.ext ?_) ?_ <;> simp [Rect.emb, Rect.unit, Rect.toLoadRect, LoadRect.idx] <;> omega
end

/-- The eight rows before the first chunk are zero. -/
theorem pay8 (X : Vec Ideal S1x2048x2048 .bf16) (W : Vec Ideal S1x2048x512 .f32) : k0_pay8 (F := Ideal) = tailv X W 0 := by
  funext j
  have hj := (j 0).isLt
  change _ < 8 at hj
  unfold k0_pay8 k0_pay7 tailv tap
  rw [if_pos (by omega)]
  pointwise
  try simp [Ideal.ofBits, Ideal.ieee]

/-- The eight rows before the first chunk are zero. -/
theorem pay9 (X : Vec Ideal S1x2048x2048 .bf16) (W : Vec Ideal S1x2048x512 .f32) : k0_pay9 (F := Ideal) = tailv X W 0 := by
  funext j
  have hj := (j 0).isLt
  change _ < 8 at hj
  unfold k0_pay9 k0_pay7 tailv tap
  rw [if_pos (by omega)]
  pointwise
  try simp [Ideal.ofBits, Ideal.ieee]

/-- A copy of eight rows. -/
theorem pay13 (T : Vec Ideal S8x512 .f32) : k0_pay13 (F := Ideal) T = T := by
  unfold k0_pay13
  funext y
  pointwise

/-- A copy of eight rows. -/
theorem pay16 (T : Vec Ideal S8x512 .f32) : k0_pay16 (F := Ideal) T = T := by
  unfold k0_pay16
  funext y
  pointwise

/-- A copy of eight rows. -/
theorem pay22 (T : Vec Ideal S8x512 .f32) : k0_pay22 (F := Ideal) T = T := by
  unfold k0_pay22
  funext y
  pointwise

/-- A copy of eight rows. -/
theorem pay25 (T : Vec Ideal S8x512 .f32) : k0_pay25 (F := Ideal) T = T := by
  unfold k0_pay25
  funext y
  pointwise

/-- A copy of eight rows. -/
theorem pay31 (T : Vec Ideal S8x512 .f32) : k0_pay31 (F := Ideal) T = T := by
  unfold k0_pay31
  funext y
  pointwise

/-- A copy of eight rows. -/
theorem pay34 (T : Vec Ideal S8x512 .f32) : k0_pay34 (F := Ideal) T = T := by
  unfold k0_pay34
  funext y
  pointwise

/-- A copy of eight rows. -/
theorem pay41 (T : Vec Ideal S8x512 .f32) : k0_pay41 (F := Ideal) T = T := by
  unfold k0_pay41
  funext y
  pointwise

/-- A copy of eight rows. -/
theorem pay43 (T : Vec Ideal S8x512 .f32) : k0_pay43 (F := Ideal) T = T := by
  unfold k0_pay43
  funext y
  pointwise

/-- A product of 512 rows of the activations' block. -/
theorem mm (X : Vec Ideal S1x2048x2048 .bf16) (Y : Vec Ideal S1x512x2048 .bf16) (W : Vec Ideal S1x2048x512 .f32) (c : ℕ) (hc : c < 4)
    (hY : ∀ (r : Fin 512) (k : Fin 2048), Y (ix3 0 r k) = X (ix3 0 ⟨512 * c + r.val, by have := r.isLt; omega⟩ k)) :
    shapeCast S512x512 (matmul (F := Ideal) (φ₁ := .bf16) (φ₂ := .bf16) dot_S512x2048_S2048x512_S512x512_1_0_0_1_n_n none
      (shapeCast S512x2048 Y shapeCasts_S1x512x2048_S512x2048)
      (truncf .bf16 (shapeCast S2048x512 W shapeCasts_S1x2048x512_S2048x512 : FVec Ideal S2048x512 .f32) bitsLt_bf16_f32)
      (constant (F := Ideal) S512x512 .f32 0x00000000#32)) shapeCasts_S512x512_S512x512 = tapv X W 0 c := by
  funext j
  have hj := (j 0).isLt
  change _ < 512 at hj
  pointwise
  unfold tapv tap prod
  rw [if_neg (by omega), dif_pos (by omega)]
  refine Finset.sum_congr rfl fun x _ => congrArg (· * _) ?_
  exact hY _ _

/-- The gate's chunk 0. -/
theorem pay11 (X : Vec Ideal S1x2048x2048 .bf16) (W : Vec Ideal S1x2048x512 .f32) :
    k0_pay11 (F := Ideal) W (View.ld X (Rect.unit ![0, 0, 0] ![1, 512, 2048] inb_S1x2048x2048_S1x512x2048_0_0_0)) = tapv X W 0 0 :=
  mm X _ W 0 (by omega) fun r k => by
    refine congrArg X ?_
    blk_ext <;> simp [Rect.idx_unit_val]

/-- The gate's chunk 1. -/
theorem pay19 (X : Vec Ideal S1x2048x2048 .bf16) (W : Vec Ideal S1x2048x512 .f32) :
    k0_pay19 (F := Ideal) (k0_pay3 W) (View.ld X (Rect.unit ![0, 512, 0] ![1, 512, 2048] inb_S1x2048x2048_S1x512x2048_0_512_0)) = tapv X W 0 1 :=
  mm X _ W 1 (by omega) fun r k => by
    refine congrArg X ?_
    blk_ext <;> simp [Rect.idx_unit_val]

/-- The gate's chunk 2. -/
theorem pay28 (X : Vec Ideal S1x2048x2048 .bf16) (W : Vec Ideal S1x2048x512 .f32) :
    k0_pay28 (F := Ideal) (k0_pay3 W) (View.ld X (Rect.unit ![0, 1024, 0] ![1, 512, 2048] inb_S1x2048x2048_S1x512x2048_0_1024_0)) = tapv X W 0 2 :=
  mm X _ W 2 (by omega) fun r k => by
    refine congrArg X ?_
    blk_ext <;> simp [Rect.idx_unit_val]

/-- The gate's chunk 3. -/
theorem pay37 (X : Vec Ideal S1x2048x2048 .bf16) (W : Vec Ideal S1x2048x512 .f32) :
    k0_pay37 (F := Ideal) (k0_pay3 W) (View.ld X (Rect.unit ![0, 1536, 0] ![1, 512, 2048] inb_S1x2048x2048_S1x512x2048_0_1536_0)) = tapv X W 0 3 :=
  mm X _ W 3 (by omega) fun r k => by
    refine congrArg X ?_
    blk_ext <;> simp [Rect.idx_unit_val]

/-- The value's chunk 0. -/
theorem pay12 (X : Vec Ideal S1x2048x2048 .bf16) (W : Vec Ideal S1x2048x512 .f32) :
    k0_pay12 (F := Ideal) (k0_pay4 W) (k0_pay10 (View.ld X (Rect.unit ![0, 0, 0] ![1, 512, 2048] inb_S1x2048x2048_S1x512x2048_0_0_0))) = tapv X W 0 0 :=
  mm X _ W 0 (by omega) fun r k => by
    refine congrArg X ?_
    blk_ext <;> simp [Rect.idx_unit_val]

/-- The value's chunk 1. -/
theorem pay21 (X : Vec Ideal S1x2048x2048 .bf16) (W : Vec Ideal S1x2048x512 .f32) :
    k0_pay21 (F := Ideal) (k0_pay20 (k0_pay4 W) (View.ld X (Rect.unit ![0, 512, 0] ![1, 512, 2048] inb_S1x2048x2048_S1x512x2048_0_512_0))) = tapv X W 0 1 :=
  mm X _ W 1 (by omega) fun r k => by
    refine congrArg X ?_
    blk_ext <;> simp [Rect.idx_unit_val]

/-- The value's chunk 2. -/
theorem pay29 (X : Vec Ideal S1x2048x2048 .bf16) (W : Vec Ideal S1x2048x512 .f32) :
    k0_pay29 (F := Ideal) (k0_pay4 W) (View.ld X (Rect.unit ![0, 1024, 0] ![1, 512, 2048] inb_S1x2048x2048_S1x512x2048_0_1024_0)) = tapv X W 0 2 :=
  mm X _ W 2 (by omega) fun r k => by
    refine congrArg X ?_
    blk_ext <;> simp [Rect.idx_unit_val]

/-- The value's chunk 3. -/
theorem pay38 (X : Vec Ideal S1x2048x2048 .bf16) (W : Vec Ideal S1x2048x512 .f32) :
    k0_pay38 (F := Ideal) (k0_pay4 W) (View.ld X (Rect.unit ![0, 1536, 0] ![1, 512, 2048] inb_S1x2048x2048_S1x512x2048_0_1536_0)) = tapv X W 0 3 :=
  mm X _ W 3 (by omega) fun r k => by
    refine congrArg X ?_
    blk_ext <;> simp [Rect.idx_unit_val]

end Cert.FfnProj

end
-- ==== Proof.FfnProj.lean ====
/- The feed-forward block's first product, its short convolution and its gate: what the kernel `Kernel2` leaves in its results is
   the reference's terms. -/
module

public import proofs.«01_k».proof.Defs
public import proofs.«01_k».proof.Proof.FfnTaps
public import proofs.«01_k».proof.Proof.Gen.Reference2Ideal.Run

@[expose] public section

set_option maxRecDepth 16384

noncomputable section

namespace Cert.FfnProj

open Cert.Kernel2Ideal Cert.Kernel2Ideal.Gen Idealize.ShloMosaic Idealize.ShloMosaic.TcCoe Idealize.SL.Sem

/-- The convolution at a row and a column: the three taps with their weights, and the bias. -/
def convB (X : Vec Ideal S1x2048x2048 .bf16) (W : Vec Ideal S1x2048x512 .f32) (cw : Vec Ideal S1x3x512 .f32) (cb : Vec Ideal S1x1x512 .f32) (s : ℕ) (n : Fin 512) : EReal :=
  tap X W 0 s n * cw (ix3 0 2 n) + tap X W 1 s n * cw (ix3 0 1 n) + tap X W 2 s n * cw (ix3 0 0 n) + cb (ix3 0 0 n)

/-- The gated activation of two numbers. -/
def gated (g v : EReal) : EReal := g * Ideal.div 1 (1 + Ideal.exp (0 - g)) * v

/-- A grid point's block of activations. -/
def blockV (X : Vec Ideal S1x2048x2048 .bf16) (W W' : Vec Ideal S1x2048x512 .f32) (cw cw' : Vec Ideal S1x3x512 .f32) (cb cb' : Vec Ideal S1x1x512 .f32) : Vec Ideal S1x2048x512 .bf16 :=
  fun y => gated (convB X W cw cb (y 1).val (y 2)) (convB X W' cw' cb' (y 1).val (y 2))

/-- A chunk's payload, written with the chunk's taps, is the gated activation at the chunk's rows. -/
theorem piece (c : ℕ) (X : Vec Ideal S1x2048x2048 .bf16) (W W' : Vec Ideal S1x2048x512 .f32) (cw cw' : Vec Ideal S1x3x512 .f32) (cb cb' : Vec Ideal S1x1x512 .f32)
    (x : S1x512x512.Idx) (z : S1x2048x512.Idx) (h1 : (z 1).val = 512 * c + (x 1).val) (h2 : (z 2).val = (x 2).val) {a : EReal}
    (h : a = gated (tapv X W 0 c (ix2 (x 1) (x 2)) * cw (ix3 0 2 (x 2)) + tapv X W 1 c (ix2 (x 1) (x 2)) * cw (ix3 0 1 (x 2)) + tapv X W 2 c (ix2 (x 1) (x 2)) * cw (ix3 0 0 (x 2)) + cb (ix3 0 0 (x 2)))
      (tapv X W' 0 c (ix2 (x 1) (x 2)) * cw' (ix3 0 2 (x 2)) + tapv X W' 1 c (ix2 (x 1) (x 2)) * cw' (ix3 0 1 (x 2)) + tapv X W' 2 c (ix2 (x 1) (x 2)) * cw' (ix3 0 0 (x 2)) + cb' (ix3 0 0 (x 2)))) :
    a = gated (convB X W cw cb (z 1).val (z 2)) (convB X W' cw' cb' (z 1).val (z 2)) := by
  have e : z 2 = x 2 := Fin.ext h2
  rw [h, h1, e]
  rfl

variable (m : (ℓ : Loc nD τ sig) → Buf (Elt Ideal) ℓ)

/-- What grid point `t` leaves in its block of the activations. -/
theorem block (c : Dev nD) (t : Fin cfg0.N) (y : S1x2048x512.Idx) :
    (outsAt0 m c t).1 y = blockV (iblk m c 0 t) (iblk m c 1 t) (iblk m c 2 t) (iblk m c 3 t) (iblk m c 4 t) (iblk m c 5 t) (iblk m c 6 t) y := by
  dsimp only [outsAt0]
  frame_open
  simp (disch := decide) only [↓ View.readCov_skip, ↓ View.readCov_cons_toLoadRect, ↓ View.readCov_fill]
  simp (disch := decide) only [View.readAt_eq_ld, Memref.IsWhole.read_unread, View.ld_unit_lit, pay8 (iblk m c 0 t) (iblk m c 1 t), pay9 (iblk m c 0 t) (iblk m c 2 t),
    pay13, pay16, pay22, pay25, pay31, pay34, pay41, pay43, pay11, pay19, pay28, pay37, pay12, pay21, pay29, pay38, read_1, read_2, read_t]
  rw [View.read_writes_junk_eq_canon]
  have hy := (y 1).isLt
  change _ < 2048 at hy
  refine View.canon_append_of_piecesOf (blockV (iblk m c 0 t) (iblk m c 1 t) (iblk m c 2 t) (iblk m c 3 t) (iblk m c 4 t) (iblk m c 5 t) (iblk m c 6 t)) [] [_, _, _, _]
    ⟨fun x => ?_, fun x => ?_, fun x => ?_, fun x => ?_, trivial⟩ y ?_
  · exact piece 3 _ _ _ _ _ _ _ x _ (by simp [Rect.emb, Rect.unit]) (by simp [Rect.emb, Rect.unit])
      (by unfold k0_pay1 k0_pay42 k0_pay44 k0_pay39 k0_pay40 k0_pay5 k0_pay6; pointwise; rfl)
  · exact piece 2 _ _ _ _ _ _ _ x _ (by simp [Rect.emb, Rect.unit]) (by simp [Rect.emb, Rect.unit])
      (by unfold k0_pay35 k0_pay32 k0_pay33 k0_pay30 k0_pay5 k0_pay6; pointwise; rfl)
  · exact piece 1 _ _ _ _ _ _ _ x _ (by simp [Rect.emb, Rect.unit]) (by simp [Rect.emb, Rect.unit])
      (by unfold k0_pay26 k0_pay23 k0_pay24 k0_pay5 k0_pay6; pointwise; rfl)
  · exact piece 0 _ _ _ _ _ _ _ x _ (by simp [Rect.emb, Rect.unit]) (by simp [Rect.emb, Rect.unit])
      (by unfold k0_pay17 k0_pay14 k0_pay15 k0_pay5 k0_pay6; pointwise; rfl)
  · by_cases h3 : 1536 ≤ (y 1).val
    · exact ⟨_, List.mem_cons_self .., by simp [Rect.mem_set_unit, Fin.forall_fin_succ]; omega⟩
    by_cases h2 : 1024 ≤ (y 1).val
    · exact ⟨_, List.mem_cons_of_mem _ (List.mem_cons_self ..), by simp [Rect.mem_set_unit, Fin.forall_fin_succ]; omega⟩
    by_cases h1 : 512 ≤ (y 1).val
    · exact ⟨_, List.mem_cons_of_mem _ (List.mem_cons_of_mem _ (List.mem_cons_self ..)), by simp [Rect.mem_set_unit, Fin.forall_fin_succ]; omega⟩
    · exact ⟨_, List.mem_cons_of_mem _ (List.mem_cons_of_mem _ (List.mem_cons_of_mem _ (List.mem_cons_self ..))), by simp [Rect.mem_set_unit, Fin.forall_fin_succ]; omega⟩

/-- The windows' block indices at a grid point. -/
theorem idx : ∀ t : Fin cfg0.N, win0_0.index t = ![(grid0.coords t 0).val, 0, 0] ∧ win0_1.index t = ![1, 0, (grid0.coords t 1).val]
    ∧ win0_2.index t = ![1, 0, (grid0.coords t 1).val + 11] ∧ win0_3.index t = ![1, 0, (grid0.coords t 1).val]
    ∧ win0_4.index t = ![1, 0, (grid0.coords t 1).val + 11] ∧ win0_5.index t = ![1, 0, (grid0.coords t 1).val]
    ∧ win0_6.index t = ![1, 0, (grid0.coords t 1).val + 11] ∧ win0_8.index t = ![(grid0.coords t 0).val, 0, (grid0.coords t 1).val] :=
  (by decide +kernel : ∀ t : Fin grid0.N, _)

/-- A tap as a choice. -/
theorem tap_eq (X : Vec Ideal S1x2048x2048 .bf16) (W : Vec Ideal S1x2048x512 .f32) (k s : ℕ) (n : Fin 512) (hs : s < 2048) (p : Prop) [Decidable p] (hp : p ↔ k ≤ s)
    (f : p → EReal) (z : EReal) (hz : z = 0) (hf : ∀ h : p, ∑ x : Fin 2048, (X (ix3 0 ⟨s - k, by omega⟩ x) : EReal) * (W (ix3 0 x n) : EReal) = f h) :
    tap X W k s n = if h : p then f h else z := by
  unfold tap
  by_cases h : p
  · rw [dif_pos h, if_neg (by have := hp.mp h; omega), ← hf h]
    unfold prod
    rw [dif_pos]
  · rw [dif_neg h, hz, if_pos]
    by_contra h'
    exact h (hp.mpr (by omega))

/-- A sum of four terms, the first three in the other order. -/
theorem reord {a b c d a' b' c' d' : EReal} (h1 : a = c') (h2 : b = b') (h3 : c = a') (h4 : d = d') : a + b + c + d = a' + b' + c' + d' := by
  subst h1 h2 h3 h4
  rw [add_right_comm c, add_comm c a, add_right_comm a c b]

/-- The gated activation of equal numbers, the negation written as a difference from zero. -/
theorem gated_eq {g v g' v' : EReal} (hg : g = g') (hv : v = v') : gated g v = g' * Ideal.div 1 (1 + Ideal.exp (-g')) * v' := by
  subst hg hv
  unfold gated
  rw [sub_eq_add_neg, zero_add]

end Cert.FfnProj

end
-- ==== Proof.FfnRest.lean ====
/- The feed-forward block's biases as the kernel `Kernel2` reads them, and its copy of the output weights. -/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.Pointwise
public import Idealize.ShloMosaic.Lib.KernelVsHost

@[expose] public section

set_option maxRecDepth 16384

noncomputable section

namespace Cert.FfnProj

open Cert.Kernel2Ideal Cert.Kernel2Ideal.Gen Idealize.ShloMosaic Idealize.ShloMosaic.TcCoe Idealize.SL.Sem

/-- The integer zero read as a number. -/
theorem zero_word : (FloatOps.sitofp FTy.f32 0#32 : Ideal .f32) = (0 : EReal) := sitofp_zero (φ := .f32)

variable (m : (ℓ : Loc nD τ sig) → Buf (Elt Ideal) ℓ)

/-- The windows' block indices at a grid point, of the biases, the output weights and their copy. -/
theorem idxR : ∀ t : Fin cfg0.N, win0_5.index t = ![1, 0, (grid0.coords t 1).val]
    ∧ win0_6.index t = ![1, 0, (grid0.coords t 1).val + 11] ∧ win0_7.index t = ![1, (grid0.coords t 0).val * 11 + (grid0.coords t 1).val, 0]
    ∧ win0_9.index t = ![(grid0.coords t 0).val * 11 + (grid0.coords t 1).val, 0] :=
  (by decide +kernel : ∀ t : Fin grid0.N, _)

/-- The gate's bias. -/
theorem bias5 (c : Dev nD) (t : Fin cfg0.N) (n : Fin 512) (k : Fin 11264) (hk : k.val = (grid0.coords t 1).val * 512 + n.val) :
    iblk m c 5 t (ix3 0 0 n) = m ((c.tc : Thread nD τ).loc main_arg3) (ix2 1 k) := by
  obtain ⟨e5, e6, e7, e9⟩ := idxR t
  unfold iblk
  entry_read
  blk_simp
  pointwise
  blk_ext [e5, hk]

/-- The value's bias. -/
theorem bias6 (c : Dev nD) (t : Fin cfg0.N) (n : Fin 512) (k : Fin 11264) (hk : k.val = 5632 + ((grid0.coords t 1).val * 512 + n.val)) :
    iblk m c 6 t (ix3 0 0 n) = m ((c.tc : Thread nD τ).loc main_arg3) (ix2 1 k) := by
  obtain ⟨e5, e6, e7, e9⟩ := idxR t
  unfold iblk
  entry_read
  blk_simp
  pointwise
  blk_ext [e6, hk]

/-- What grid point `t` leaves in its block of the copied weights. -/
theorem blockC (c : Dev nD) (t : Fin cfg0.N) (y : S128x2048.Idx) :
    (outsAt0 m c t).2 y = (iblk m c 7 t (ix3 0 (y 0) (y 1)) : EReal) := by
  dsimp only [outsAt0]
  frame_open
  simp (disch := decide) only [View.readAt_eq_ld, Memref.IsWhole.read_unread, View.ld_unit_lit]
  rw [View.read_writes_junk_eq_canon]
  refine View.canon_append_of_piecesOf (fun z => (iblk m c 7 t (ix3 0 (z 0) (z 1)) : EReal)) [] [_] ⟨fun x => ?_, trivial⟩ y ?_
  · unfold k0_pay2
    pointwise
    congr 1
    funext a
    match a with
    | ⟨0, _⟩ => rfl
    | ⟨1, _⟩ => exact Fin.ext (by simp [Rect.emb, Rect.unit])
    | ⟨2, _⟩ => exact Fin.ext (by simp [Rect.emb, Rect.unit])
  · exact ⟨_, List.mem_cons_self .., by simp [Rect.mem_set_unit, Fin.forall_fin_succ]; exact ⟨(y 0).isLt, (y 1).isLt⟩⟩

/-- The copied weights after the kernel's run are the reference's. -/
theorem cast (c : Dev nD) : (dats m 0 c).arrAt 9 cfg0.N
    = (truncf .bf16 (shapeCast Cert.Reference2Ideal.S5632x2048 (extractStridedSlice Cert.Reference2Ideal.S1x5632x2048 ![1, 0, 0] (m ((c.tc : Thread nD τ).loc main_arg4)) Cert.Reference2Ideal.Gen.slices_S2x5632x2048_S1x5632x2048_1_0_0) Cert.Reference2Ideal.Gen.shapeCasts_S1x5632x2048_S5632x2048) (by decide : FTy.bits .bf16 < FTy.bits .f32) : FVec Ideal Cert.Reference2Ideal.S5632x2048 .bf16) := by
  refine (dats m 0 c).arrAt_eq_of_covers 9 _ (by decide +kernel) fun t hf y => ?_
  obtain ⟨e5, e6, e7, e9⟩ := idxR t
  blk_simp
  rw [after0_9, blockC]
  pointwise
  blk_ext [iblk, V, e7, e9]

end Cert.FfnProj

end
-- ==== Proof.FfnValue.lean ====
/- The feed-forward block's first product with its convolution and gate: the kernel `Kernel2` and its reference end with the
   same results. -/
module

public import proofs.«01_k».proof.Proof.FfnProj
public import proofs.«01_k».proof.Proof.FfnRest

@[expose] public section

set_option maxRecDepth 16384

noncomputable section

namespace Cert.FfnProj

open Cert.Kernel2Ideal Cert.Kernel2Ideal.Gen Idealize.ShloMosaic Idealize.ShloMosaic.TcCoe Idealize.SL.Sem

variable (m : (ℓ : Loc nD τ sig) → Buf (Elt Ideal) ℓ)

set_option maxHeartbeats 4000000 in
/-- The kernel's activations after its run are the reference's. -/
theorem value (c : Dev nD) (m' : (ℓ : Loc Cert.Reference2Ideal.nD Cert.Reference2Ideal.τ Cert.Reference2Ideal.sig) → Buf (Elt Ideal) ℓ)
    (a0 : m' ((c.tc : Thread Cert.Reference2Ideal.nD Cert.Reference2Ideal.τ).loc Cert.Reference2Ideal.main_arg0) = m ((c.tc : Thread nD τ).loc main_arg0))
    (a1 : m' ((c.tc : Thread Cert.Reference2Ideal.nD Cert.Reference2Ideal.τ).loc Cert.Reference2Ideal.main_arg1) = m ((c.tc : Thread nD τ).loc main_arg1))
    (a2 : m' ((c.tc : Thread Cert.Reference2Ideal.nD Cert.Reference2Ideal.τ).loc Cert.Reference2Ideal.main_arg2) = m ((c.tc : Thread nD τ).loc main_arg2))
    (a3 : m' ((c.tc : Thread Cert.Reference2Ideal.nD Cert.Reference2Ideal.τ).loc Cert.Reference2Ideal.main_arg3) = m ((c.tc : Thread nD τ).loc main_arg3)) :
    (dats m 0 c).arrAt 8 cfg0.N = Cert.Reference2Ideal.Value.res_main_v36 m' c := by
  refine (dats m 0 c).arrAt_eq_of_covers 8 _ (by decide +kernel) fun t hf y => ?_
  have hy := (y 1).isLt
  change _ < 2048 at hy
  have hy2 := (y 2).isLt
  change _ < 512 at hy2
  obtain ⟨e0, e1, e2, e3, e4, e5, e6, e8⟩ := idx t
  blk_simp
  rw [after0_8, block]
  unfold Cert.Reference2Ideal.Value.res_main_v36 blockV
  rw [a0, a1, a2, a3]
  have hj := (grid0.coords t 1).isLt
  change _ < 11 at hj
  pointwise
  refine gated_eq (reord (congrArg₂ (· * ·) (tap_eq _ _ _ _ _ hy _ ?_ _ _ ?_ fun h => Finset.sum_congr rfl fun k _ => congrArg₂ (· * ·) ?_ ?_) ?_)
      (congrArg₂ (· * ·) (tap_eq _ _ _ _ _ hy _ ?_ _ _ ?_ fun h => Finset.sum_congr rfl fun k _ => congrArg₂ (· * ·) ?_ ?_) ?_)
      (congrArg₂ (· * ·) (tap_eq _ _ _ _ _ hy _ ?_ _ _ ?_ fun h => Finset.sum_congr rfl fun k _ => congrArg₂ (· * ·) ?_ ?_) ?_) ?_)
    (reord (congrArg₂ (· * ·) (tap_eq _ _ _ _ _ hy _ ?_ _ _ ?_ fun h => Finset.sum_congr rfl fun k _ => congrArg₂ (· * ·) ?_ ?_) ?_)
      (congrArg₂ (· * ·) (tap_eq _ _ _ _ _ hy _ ?_ _ _ ?_ fun h => Finset.sum_congr rfl fun k _ => congrArg₂ (· * ·) ?_ ?_) ?_)
      (congrArg₂ (· * ·) (tap_eq _ _ _ _ _ hy _ ?_ _ _ ?_ fun h => Finset.sum_congr rfl fun k _ => congrArg₂ (· * ·) ?_ ?_) ?_) ?_)
  all_goals first
    | (blk_simp [e8]; omega)
    | (blk_ext [iblk, V, e0, e1, e2, e3, e4, e5, e6, e8]; done)
    | exact zero_word
    | skip
  · refine bias5 m c t _ _ ?_
    first
      | (blk_simp [e8]; done)
      | (blk_simp [e8]; omega)
  · refine bias6 m c t _ _ ?_
    first
      | (blk_simp [e8]; done)
      | (blk_simp [e8]; omega)

/-- The claim's equation: both programs run to the same results. -/
theorem algebraic : algebraic_Kernel2Ideal_Reference2Ideal := by
  intro m g m' g' _ hagree
  refine ⟨fun c => (dats m 0 c).arrAt 8 cfg0.N, fun c => (dats m 0 c).arrAt 9 cfg0.N, Cert.Kernel2Ideal.Value.run_blocks m g, ?_⟩
  refine (θ_run _ _ _).mono (fun r h c => ?_) (Cert.Reference2Ideal.Value.run m' g')
  obtain ⟨h8, h9, h0, h1, h2, h3, h4⟩ := h c
  obtain ⟨a0, a1, a2, a3, a4⟩ := hagree c
  refine ⟨?_, ?_, h0, h1, h2, h3, h4⟩
  · rw [h8]
    exact (value m c m' a0 a1 a2 a3).symm
  · rw [h9, a4]
    exact (cast m c).symm

end Cert.FfnProj

end
-- ==== Proof.FfnOut.lean ====
/- The feed-forward block's second product: what the kernel `Kernel3` leaves in its result is the residual stream plus the
   product of the activations and the weights, which is the reference's term. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.FfnOut

open Cert.Kernel3Ideal Cert.Kernel3Ideal.Gen Idealize.ShloMosaic Idealize.ShloMosaic.TcCoe Idealize.SL.Sem

variable (m : (ℓ : Loc nD τ sig) → Buf (Elt Ideal) ℓ)

/-- The windows' block indices at a grid point. -/
theorem idx : ∀ t : Fin cfg0.N, win0_0.index t = ![(grid0.coords t 0).val, 0] ∧ win0_1.index t = ![0, 0, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

/-- The kernel's result array after its run is the residual plus the product. -/
theorem value (c : Dev nD) :
    (dats m 0 c).arrAt 3 cfg0.N = (addf (m ((c.tc : Thread nD τ).loc main_arg2)) (Host.dotGeneral Cert.Reference3Ideal.dot_S8192x5632_S5632x2048_S8192x2048_1_0_0_1_n_n none (extf .f32 (m ((c.tc : Thread nD τ).loc main_arg0)) (by decide : FTy.bits .bf16 < FTy.bits .f32)) (extf .f32 (m ((c.tc : Thread nD τ).loc main_arg1)) (by decide : FTy.bits .bf16 < FTy.bits .f32))) : FVec Ideal S8192x2048 .f32) := by
  refine (dats m 0 c).arrAt_eq_of_covers 3 _ (by decide +kernel) fun t hf y => ?_
  blk_simp
  rw [after0_3]
  frame_out
  unfold k0_pay1
  pointwise
  obtain ⟨e0, e1, e2, e3⟩ := idx t
  refine congrArg₂ (· + ·) ?_ (Finset.sum_congr rfl fun k _ => congrArg₂ (· * ·) ?_ ?_)
  · blk_ext [iblk, V, e2, e3]
  · blk_ext [iblk, V, e0, e3]
  · unfold iblk
    entry_read
    blk_simp
    refine broadcastInDim_apply _ _ _ _ (ix2 k ((win0_3.blk t).view.emb y 1)) fun a => ?_
    match a with
    | ⟨0, _⟩ =>
      rw [if_neg (by simp)]
      show k.val = ((win0_1.blk t).view.emb (ix3 0 k (y 1)) 1).val
      blk_simp [e1]
    | ⟨1, _⟩ =>
      rw [if_neg (by simp)]
      show ((win0_3.blk t).view.emb y 1).val = ((win0_1.blk t).view.emb (ix3 0 k (y 1)) 2).val
      blk_simp [e1, e3]

/-- The claim's equation: both programs run to the same result. -/
theorem algebraic : algebraic_Kernel3Ideal_Reference3Ideal := by
  intro m g m' g' _ hagree
  refine ⟨fun c => (dats m 0 c).arrAt 3 cfg0.N, Cert.Kernel3Ideal.Value.run_blocks m g, ?_⟩
  refine (θ_run _ _ _).mono (fun r h c => ?_) (Cert.Reference3Ideal.Value.run m' g')
  obtain ⟨h3, h0, h1, h2⟩ := h c
  obtain ⟨a0, a1, a2⟩ := hagree c
  refine ⟨?_, h0, h1, h2⟩
  rw [h3, a0, a1, a2]
  exact (value m c).symm

end Cert.FfnOut

end
-- ==== Proof.ProjPlain.lean ====
/- The projection into the second layer's mixers: what the kernel `Kernel4` leaves in its result is the product of the
   activations and the weights, which is the reference's term. -/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ProjPlain

open Cert.Kernel4Ideal Cert.Kernel4Ideal.Gen Idealize.ShloMosaic Idealize.ShloMosaic.TcCoe Idealize.SL.Sem

/-- A block of the product. -/
def prod (X : Vec Ideal S1x2048x2048 .bf16) (W : Vec Ideal S1x2048x512 .f32) : Vec Ideal S1x2048x512 .f32 :=
  fun y => ∑ k : Fin 2048, (X (ix3 0 (y 1) k) : EReal) * (W (ix3 0 k (y 2)) : EReal)

/-- The four row pieces that the body stores are the block of the product. -/
theorem out (X : Vec Ideal S1x2048x2048 .bf16) (W : Vec Ideal S1x2048x512 .f32) (y : S1x2048x512.Idx) : out0_2 X W y = prod X W y := by
  unfold out0_2
  refine View.canon_append_of_piecesOf (prod X W) [] [_, _, _, _] ⟨fun x => ?_, fun x => ?_, fun x => ?_, fun x => ?_, trivial⟩ y ?_
  · unfold k0_pay1 k0_pay6 k0_pay2 prod
    pointwise
    refine Finset.sum_congr rfl fun k _ => congrArg₂ (· * ·) (congrArg X (funext fun a => ?_)) (congrArg W (funext fun a => ?_))
    all_goals
      match a with
      | ⟨0, _⟩ => exact Fin.ext (by simp [Rect.emb, Rect.unit])
      | ⟨1, _⟩ => exact Fin.ext (by simp [Rect.emb, Rect.unit])
      | ⟨2, _⟩ => exact Fin.ext (by simp [Rect.emb, Rect.unit])
  · unfold k0_pay5 k0_pay2 prod
    pointwise
    refine Finset.sum_congr rfl fun k _ => congrArg₂ (· * ·) (congrArg X (funext fun a => ?_)) (congrArg W (funext fun a => ?_))
    all_goals
      match a with
      | ⟨0, _⟩ => exact Fin.ext (by simp [Rect.emb, Rect.unit])
      | ⟨1, _⟩ => exact Fin.ext (by simp [Rect.emb, Rect.unit])
      | ⟨2, _⟩ => exact Fin.ext (by simp [Rect.emb, Rect.unit])
  · unfold k0_pay4 k0_pay2 prod
    pointwise
    refine Finset.sum_congr rfl fun k _ => congrArg₂ (· * ·) (congrArg X (funext fun a => ?_)) (congrArg W (funext fun a => ?_))
    all_goals
      match a with
      | ⟨0, _⟩ => exact Fin.ext (by simp [Rect.emb, Rect.unit])
      | ⟨1, _⟩ => exact Fin.ext (by simp [Rect.emb, Rect.unit])
      | ⟨2, _⟩ => exact Fin.ext (by simp [Rect.emb, Rect.unit])
  · unfold k0_pay3 k0_pay2 prod
    pointwise
    refine Finset.sum_congr rfl fun k _ => congrArg₂ (· * ·) (congrArg X (funext fun a => ?_)) (congrArg W (funext fun a => ?_))
    all_goals
      match a with
      | ⟨0, _⟩ => exact Fin.ext (by simp [Rect.emb, Rect.unit])
      | ⟨1, _⟩ => exact Fin.ext (by simp [Rect.emb, Rect.unit])
      | ⟨2, _⟩ => exact Fin.ext (by simp [Rect.emb, Rect.unit])
  · have hy := (y 1).isLt
    change _ < 2048 at hy
    by_cases h3 : 1536 ≤ (y 1).val
    · exact ⟨_, List.mem_cons_self .., by simp [Rect.mem_set_unit, Fin.forall_fin_succ]; omega⟩
    by_cases h2 : 1024 ≤ (y 1).val
    · exact ⟨_, List.mem_cons_of_mem _ (List.mem_cons_self ..), by simp [Rect.mem_set_unit, Fin.forall_fin_succ]; omega⟩
    by_cases h1 : 512 ≤ (y 1).val
    · exact ⟨_, List.mem_cons_of_mem _ (List.mem_cons_of_mem _ (List.mem_cons_self ..)), by simp [Rect.mem_set_unit, Fin.forall_fin_succ]; omega⟩
    · exact ⟨_, List.mem_cons_of_mem _ (List.mem_cons_of_mem _ (List.mem_cons_of_mem _ (List.mem_cons_self ..))), by simp [Rect.mem_set_unit, Fin.forall_fin_succ]; omega⟩

variable (m : (ℓ : Loc nD τ sig) → Buf (Elt Ideal) ℓ)

/-- The windows' block indices at a grid point. -/
theorem idx : ∀ t : Fin cfg0.N, win0_0.index t = ![(grid0.coords t 0).val, 0, 0] ∧ win0_1.index t = ![0, 0, (grid0.coords t 1).val]
    ∧ win0_2.index t = ![(grid0.coords t 0).val, 0, (grid0.coords t 1).val] :=
  (by decide +kernel : ∀ t : Fin grid0.N, _)

/-- The reference's term at an index. -/
theorem ref (A : FVec Ideal S4x2048x2048 .bf16) (W : FVec Ideal S1x2048x7168 .f32) (i : S4x2048x7168.Idx) :
    (Host.dotGeneral Cert.Reference4Ideal.dot_S4x2048x2048_S2048x7168_S4x2048x7168_2_0_01_1_n_n none (extf .f32 A (by decide : FTy.bits .bf16 < FTy.bits .f32)) (shapeCast Cert.Reference4Ideal.S2048x7168 W Cert.Reference4Ideal.Gen.shapeCasts_S1x2048x7168_S2048x7168 : FVec Ideal Cert.Reference4Ideal.S2048x7168 .f32) : FVec Ideal S4x2048x7168 .f32) i
      = ∑ k : Fin 2048, (A (ix3 (i 0) (i 1) k) : EReal) * (W (ix3 0 k (i 2)) : EReal) := by
  pointwise

/-- The kernel's result array after its run is the product. -/
theorem value (c : Dev nD) :
    (dats m 0 c).arrAt 2 cfg0.N = (Host.dotGeneral Cert.Reference4Ideal.dot_S4x2048x2048_S2048x7168_S4x2048x7168_2_0_01_1_n_n none (extf .f32 (m ((c.tc : Thread nD τ).loc main_arg0)) (by decide : FTy.bits .bf16 < FTy.bits .f32)) (shapeCast Cert.Reference4Ideal.S2048x7168 (m ((c.tc : Thread nD τ).loc main_arg1)) Cert.Reference4Ideal.Gen.shapeCasts_S1x2048x7168_S2048x7168 : FVec Ideal Cert.Reference4Ideal.S2048x7168 .f32) : FVec Ideal S4x2048x7168 .f32) := by
  refine (dats m 0 c).arrAt_eq_of_covers 2 _ (by decide +kernel) fun t hf y => ?_
  blk_simp
  rw [after0_2, out]
  obtain ⟨e0, e1, e2⟩ := idx t
  refine Eq.trans ?_ (ref _ _ _).symm
  unfold prod
  refine Finset.sum_congr (M := EReal) rfl fun k _ => congrArg₂ (· * ·) ?_ ?_
  · blk_ext [iblk, V, e0, e2]
  · blk_ext [iblk, V, e1, e2]

/-- The kernel and its reference end with the same result. -/
theorem algebraic : algebraic_Kernel4Ideal_Reference4Ideal := by
  intro m g m' g' _ hagree
  refine ⟨fun c => (dats m 0 c).arrAt 2 cfg0.N, Cert.Kernel4Ideal.Value.run_blocks m g, ?_⟩
  refine (θ_run _ _ _).mono (fun r h c => ?_) (Cert.Reference4Ideal.Value.run m' g')
  obtain ⟨h3, h0, h1⟩ := h c
  obtain ⟨a0, a1⟩ := hagree c
  refine ⟨?_, h0, h1⟩
  rw [h3, a0, a1]
  exact (value m c).symm

end Cert.ProjPlain

end
-- ==== Proof.MixOut.lean ====
/- The mixers' output product: what the kernel `Kernel5` leaves in its result is the residual stream plus the product of the
   two mixers' outputs, side by side, and the weights, which is the reference's term. -/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MixOut

open Cert.Kernel5Ideal Cert.Kernel5Ideal.Gen Idealize.ShloMosaic Idealize.ShloMosaic.TcCoe Idealize.SL.Sem

/-- A block of the residual stream plus both mixers' products. -/
def mix (A B : Vec Ideal S512x1024 .bf16) (U W : Vec Ideal S1x1024x2048 .bf16) (H : Vec Ideal S512x2048 .f32) : Vec Ideal S512x2048 .f32 :=
  fun y => (H y : EReal) + ∑ k : Fin 1024, (A (ix2 (y 0) k) : EReal) * (U (ix3 0 k (y 1)) : EReal) + ∑ k : Fin 1024, (B (ix2 (y 0) k) : EReal) * (W (ix3 0 k (y 1)) : EReal)

/-- The four column pieces that the body stores are the block. -/
theorem out (A B : Vec Ideal S512x1024 .bf16) (U W : Vec Ideal S1x1024x2048 .bf16) (H : Vec Ideal S512x2048 .f32) (y : S512x2048.Idx) :
    out0_5 A B U W H y = mix A B U W H y := by
  unfold out0_5
  refine View.canon_append_of_piecesOf (mix A B U W H) [] [_, _, _, _] ⟨fun x => ?_, fun x => ?_, fun x => ?_, fun x => ?_, trivial⟩ y ?_
  · unfold k0_pay2 mix
    pointwise
    refine congrArg₂ (· + ·) (congrArg₂ (· + ·) (congrArg H (funext fun a => ?_)) (Finset.sum_congr rfl fun k _ => congrArg₂ (· * ·) (congrArg A (funext fun a => ?_)) (congrArg U (funext fun a => ?_))))
      (Finset.sum_congr rfl fun k _ => congrArg₂ (· * ·) (congrArg B (funext fun a => ?_)) (congrArg W (funext fun a => ?_)))
    · match a with
      | ⟨0, _⟩ => exact Fin.ext (by simp [Rect.emb, Rect.unit])
      | ⟨1, _⟩ => exact Fin.ext (by simp [Rect.emb, Rect.unit])
    · match a with
      | ⟨0, _⟩ => exact Fin.ext (by simp [Rect.emb, Rect.unit])
      | ⟨1, _⟩ => exact Fin.ext (by simp [Rect.emb, Rect.unit])
    · match a with
      | ⟨0, _⟩ => exact Fin.ext (by simp [Rect.emb, Rect.unit])
      | ⟨1, _⟩ => exact Fin.ext (by simp [Rect.emb, Rect.unit])
      | ⟨2, _⟩ => exact Fin.ext (by simp [Rect.emb, Rect.unit])
    · match a with
      | ⟨0, _⟩ => exact Fin.ext (by simp [Rect.emb, Rect.unit])
      | ⟨1, _⟩ => exact Fin.ext (by simp [Rect.emb, Rect.unit])
    · match a with
      | ⟨0, _⟩ => exact Fin.ext (by simp [Rect.emb, Rect.unit])
      | ⟨1, _⟩ => exact Fin.ext (by simp [Rect.emb, Rect.unit])
      | ⟨2, _⟩ => exact Fin.ext (by simp [Rect.emb, Rect.unit])
  · unfold k0_pay1 mix
    pointwise
    refine congrArg₂ (· + ·) (congrArg₂ (· + ·) (congrArg H (funext fun a => ?_)) (Finset.sum_congr rfl fun k _ => congrArg₂ (· * ·) (congrArg A (funext fun a => ?_)) (congrArg U (funext fun a => ?_))))
      (Finset.sum_congr rfl fun k _ => congrArg₂ (· * ·) (congrArg B (funext fun a => ?_)) (congrArg W (funext fun a => ?_)))
    · match a with
      | ⟨0, _⟩ => exact Fin.ext (by simp [Rect.emb, Rect.unit])
      | ⟨1, _⟩ => exact Fin.ext (by simp [Rect.emb, Rect.unit])
    · match a with
      | ⟨0, _⟩ => exact Fin.ext (by simp [Rect.emb, Rect.unit])
      | ⟨1, _⟩ => exact Fin.ext (by simp [Rect.emb, Rect.unit])
    · match a with
      | ⟨0, _⟩ => exact Fin.ext (by simp [Rect.emb, Rect.unit])
      | ⟨1, _⟩ => exact Fin.ext (by simp [Rect.emb, Rect.unit])
      | ⟨2, _⟩ => exact Fin.ext (by simp [Rect.emb, Rect.unit])
    · match a with
      | ⟨0, _⟩ => exact Fin.ext (by simp [Rect.emb, Rect.unit])
      | ⟨1, _⟩ => exact Fin.ext (by simp [Rect.emb, Rect.unit])
    · match a with
      | ⟨0, _⟩ => exact Fin.ext (by simp [Rect.emb, Rect.unit])
      | ⟨1, _⟩ => exact Fin.ext (by simp [Rect.emb, Rect.unit])
      | ⟨2, _⟩ => exact Fin.ext (by simp [Rect.emb, Rect.unit])
  · unfold k0_pay4 mix
    pointwise
    refine congrArg₂ (· + ·) (congrArg₂ (· + ·) (congrArg H (funext fun a => ?_)) (Finset.sum_congr rfl fun k _ => congrArg₂ (· * ·) (congrArg A (funext fun a => ?_)) (congrArg U (funext fun a => ?_))))
      (Finset.sum_congr rfl fun k _ => congrArg₂ (· * ·) (congrArg B (funext fun a => ?_)) (congrArg W (funext fun a => ?_)))
    · match a with
      | ⟨0, _⟩ => exact Fin.ext (by simp [Rect.emb, Rect.unit])
      | ⟨1, _⟩ => exact Fin.ext (by simp [Rect.emb, Rect.unit])
    · match a with
      | ⟨0, _⟩ => exact Fin.ext (by simp [Rect.emb, Rect.unit])
      | ⟨1, _⟩ => exact Fin.ext (by simp [Rect.emb, Rect.unit])
    · match a with
      | ⟨0, _⟩ => exact Fin.ext (by simp [Rect.emb, Rect.unit])
      | ⟨1, _⟩ => exact Fin.ext (by simp [Rect.emb, Rect.unit])
      | ⟨2, _⟩ => exact Fin.ext (by simp [Rect.emb, Rect.unit])
    · match a with
      | ⟨0, _⟩ => exact Fin.ext (by simp [Rect.emb, Rect.unit])
      | ⟨1, _⟩ => exact Fin.ext (by simp [Rect.emb, Rect.unit])
    · match a with
      | ⟨0, _⟩ => exact Fin.ext (by simp [Rect.emb, Rect.unit])
      | ⟨1, _⟩ => exact Fin.ext (by simp [Rect.emb, Rect.unit])
      | ⟨2, _⟩ => exact Fin.ext (by simp [Rect.emb, Rect.unit])
  · unfold k0_pay3 mix
    pointwise
    refine congrArg₂ (· + ·) (congrArg₂ (· + ·) (congrArg H (funext fun a => ?_)) (Finset.sum_congr rfl fun k _ => congrArg₂ (· * ·) (congrArg A (funext fun a => ?_)) (congrArg U (funext fun a => ?_))))
      (Finset.sum_congr rfl fun k _ => congrArg₂ (· * ·) (congrArg B (funext fun a => ?_)) (congrArg W (funext fun a => ?_)))
    · match a with
      | ⟨0, _⟩ => exact Fin.ext (by simp [Rect.emb, Rect.unit])
      | ⟨1, _⟩ => exact Fin.ext (by simp [Rect.emb, Rect.unit])
    · match a with
      | ⟨0, _⟩ => exact Fin.ext (by simp [Rect.emb, Rect.unit])
      | ⟨1, _⟩ => exact Fin.ext (by simp [Rect.emb, Rect.unit])
    · match a with
      | ⟨0, _⟩ => exact Fin.ext (by simp [Rect.emb, Rect.unit])
      | ⟨1, _⟩ => exact Fin.ext (by simp [Rect.emb, Rect.unit])
      | ⟨2, _⟩ => exact Fin.ext (by simp [Rect.emb, Rect.unit])
    · match a with
      | ⟨0, _⟩ => exact Fin.ext (by simp [Rect.emb, Rect.unit])
      | ⟨1, _⟩ => exact Fin.ext (by simp [Rect.emb, Rect.unit])
    · match a with
      | ⟨0, _⟩ => exact Fin.ext (by simp [Rect.emb, Rect.unit])
      | ⟨1, _⟩ => exact Fin.ext (by simp [Rect.emb, Rect.unit])
      | ⟨2, _⟩ => exact Fin.ext (by simp [Rect.emb, Rect.unit])
  · have hy := (y 1).isLt
    change _ < 2048 at hy
    by_cases h3 : 1536 ≤ (y 1).val
    · exact ⟨_, List.mem_cons_self .., by simp [Rect.mem_set_unit, Fin.forall_fin_succ]; omega⟩
    by_cases h2 : 1024 ≤ (y 1).val
    · exact ⟨_, List.mem_cons_of_mem _ (List.mem_cons_self ..), by simp [Rect.mem_set_unit, Fin.forall_fin_succ]; omega⟩
    by_cases h1 : 512 ≤ (y 1).val
    · exact ⟨_, List.mem_cons_of_mem _ (List.mem_cons_of_mem _ (List.mem_cons_self ..)), by simp [Rect.mem_set_unit, Fin.forall_fin_succ]; omega⟩
    · exact ⟨_, List.mem_cons_of_mem _ (List.mem_cons_of_mem _ (List.mem_cons_of_mem _ (List.mem_cons_self ..))), by simp [Rect.mem_set_unit, Fin.forall_fin_succ]; omega⟩

variable (m : (ℓ : Loc nD τ sig) → Buf (Elt Ideal) ℓ)

/-- The windows' block indices at a grid point. -/
theorem idx : ∀ t : Fin cfg0.N, win0_0.index t = ![(grid0.coords t 0).val, 0] ∧ win0_1.index t = ![(grid0.coords t 0).val, 0]
    ∧ win0_2.index t = ![0, 0, 0] ∧ win0_3.index t = ![0, 1, 0]
    ∧ win0_4.index t = ![(grid0.coords t 0).val, 0] ∧ win0_5.index t = ![(grid0.coords t 0).val, 0] :=
  (by decide +kernel : ∀ t : Fin grid0.N, _)

/-- Window 2's block of the weights. -/
theorem weights2 (c : Dev nD) (t : Fin cfg0.N) (k : Fin 1024) (n : Fin 2048) :
    (iblk m c 2 t (ix3 0 k n) : EReal) = m ((c.tc : Thread nD τ).loc main_arg2) (ix2 ⟨k.val, by omega⟩ n) := by
  obtain ⟨e0, e1, e2, e3, e4, e5⟩ := idx t
  unfold iblk
  entry_read
  blk_simp
  refine broadcastInDim_apply _ _ _ _ (ix2 ⟨k.val, by omega⟩ n) fun a => ?_
  match a with
  | ⟨0, _⟩ =>
    rw [if_neg (by simp)]
    show k.val = ((win0_2.blk t).view.emb (ix3 0 k n) 1).val
    blk_simp [e2]
  | ⟨1, _⟩ =>
    rw [if_neg (by simp)]
    show n.val = ((win0_2.blk t).view.emb (ix3 0 k n) 2).val
    blk_simp [e2]

/-- Window 3's block of the weights. -/
theorem weights3 (c : Dev nD) (t : Fin cfg0.N) (k : Fin 1024) (n : Fin 2048) :
    (iblk m c 3 t (ix3 0 k n) : EReal) = m ((c.tc : Thread nD τ).loc main_arg2) (ix2 ⟨1024 + k.val, by omega⟩ n) := by
  obtain ⟨e0, e1, e2, e3, e4, e5⟩ := idx t
  unfold iblk
  entry_read
  blk_simp
  refine broadcastInDim_apply _ _ _ _ (ix2 ⟨1024 + k.val, by omega⟩ n) fun a => ?_
  match a with
  | ⟨0, _⟩ =>
    rw [if_neg (by simp)]
    show 1024 + k.val = ((win0_3.blk t).view.emb (ix3 0 k n) 1).val
    blk_simp [e3]
  | ⟨1, _⟩ =>
    rw [if_neg (by simp)]
    show n.val = ((win0_3.blk t).view.emb (ix3 0 k n) 2).val
    blk_simp [e3]

/-- The kernel's result array after its run is the residual plus the product. -/
theorem value (c : Dev nD) :
    (dats m 0 c).arrAt 5 cfg0.N = (addf (m ((c.tc : Thread nD τ).loc main_arg3)) (Host.dotGeneral Cert.Reference5Ideal.dot_S8192x2048_S2048x2048_S8192x2048_1_0_0_1_n_n none (extf .f32 (concatenate S8192x2048 1 [⟨S8192x1024, (m ((c.tc : Thread nD τ).loc main_arg0))⟩, ⟨S8192x1024, (m ((c.tc : Thread nD τ).loc main_arg1))⟩] Cert.Reference5Ideal.Gen.concatenates_S8192x1024_S8192x1024_S8192x2048_d1 : FVec Ideal S8192x2048 .bf16) (by decide : FTy.bits .bf16 < FTy.bits .f32)) (extf .f32 (m ((c.tc : Thread nD τ).loc main_arg2)) (by decide : FTy.bits .bf16 < FTy.bits .f32))) : FVec Ideal S8192x2048 .f32) := by
  refine (dats m 0 c).arrAt_eq_of_covers 5 _ (by decide +kernel) fun t hf y => ?_
  blk_simp
  rw [after0_5, out]
  unfold mix
  pointwise
  obtain ⟨e0, e1, e2, e3, e4, e5⟩ := idx t
  rw [add_assoc]
  refine congrArg₂ (· + ·) ?_ (congrArg₂ (· + ·) (Finset.sum_congr rfl fun k _ => congrArg₂ (· * ·) ?_ ?_) (Finset.sum_congr rfl fun k _ => congrArg₂ (· * ·) ?_ ?_))
  · blk_ext [iblk, V, e4, e5]
  · blk_ext [iblk, V, e0, e5]
  · refine (weights2 m c t k (y 1)).trans ?_
    blk_ext [e5]
  · blk_ext [iblk, V, e1, e5]
  · refine (weights3 m c t k (y 1)).trans ?_
    blk_ext [e5]

/-- The kernel and its reference end with the same result. -/
theorem algebraic : algebraic_Kernel5Ideal_Reference5Ideal := by
  intro m g m' g' _ hagree
  refine ⟨fun c => (dats m 0 c).arrAt 5 cfg0.N, Cert.Kernel5Ideal.Value.run_blocks m g, ?_⟩
  refine (θ_run _ _ _).mono (fun r h c => ?_) (Cert.Reference5Ideal.Value.run m' g')
  obtain ⟨hr, h0, h1, h2, h3⟩ := h c
  obtain ⟨a0, a1, a2, a3⟩ := hagree c
  refine ⟨?_, h0, h1, h2, h3⟩
  rw [hr, a0, a1, a2, a3]
  exact (value m c).symm

end Cert.MixOut

end
-- ==== Proof.MemRow.lean ====
/- One row's attention to the memory tokens over the extended reals, in two forms: the scale put into the query and the
   weights normalised after the sum, and the scale put on the scores and the weights normalised before it. Where the
   arrays are finite the two agree. -/
module

public import Idealize.ShloMosaic.PureOps.Ideal
public import Idealize.ShloMosaic.Lib.IdealHost

@[expose] public section

noncomputable section

namespace Cert.MemAttn

open Idealize.ShloMosaic

/-- The small number that is added under the root. -/
def eps : EReal := Ideal.ofBits .f32 0x358637BD#32

/-- The number of a row's elements. -/
def n2048 : EReal := Ideal.ofBits .f32 0x45000000#32

/-- The number of a head's elements. -/
def n128 : EReal := Ideal.ofBits .f32 0x43000000#32

/-- The scale of the scores: one over the root of the head's width. -/
def scale : EReal := (((Real.sqrt 128)⁻¹ : ℝ) : EReal)

/-- A row divided by the root of its mean square, times the gain. -/
def nrm {n : ℕ} (cnt : EReal) (x g : Fin n → EReal) (k : Fin n) : EReal :=
  x k * Ideal.rsqrt (Ideal.div (∑ j, x j * x j) cnt + eps) * g k

/-- A row's query. -/
def query (x g : Fin 2048 → EReal) (W : Fin 2048 → Fin 512 → EReal) (c : Fin 512) : EReal := ∑ d, nrm n2048 x g d * W d c

/-- One head of the query, normalised. -/
def head (Q : Fin 512 → EReal) (qn : Fin 128 → EReal) (h : Fin 4) : Fin 128 → EReal :=
  nrm n128 (fun k => Q ⟨h.val * 128 + k.val, by omega⟩) qn

/-- The scores with the scale in the query. -/
def scoreK (q : Fin 128 → EReal) (K : Fin 256 → Fin 128 → EReal) (j : Fin 256) : EReal := ∑ k, q k * scale * K j k

/-- The scores with the scale outside. -/
def scoreR (q : Fin 128 → EReal) (K : Fin 256 → Fin 128 → EReal) (j : Fin 256) : EReal := (∑ k, q k * K j k) * scale

/-- The exponentials of the scores less their maximum. -/
def expo (s : Fin 256 → EReal) (j : Fin 256) : EReal := Ideal.exp (s j - Finset.univ.fold max ⊥ s)

/-- The weights normalised after the sum. -/
def outK (s : Fin 256 → EReal) (V : Fin 256 → Fin 128 → EReal) (n : Fin 128) : EReal :=
  (∑ j, expo s j * V j n) * Ideal.div 1 (∑ j, expo s j)

/-- The weights normalised before the sum. -/
def outR (s : Fin 256 → EReal) (V : Fin 256 → Fin 128 → EReal) (n : Fin 128) : EReal :=
  ∑ j, V j n * Ideal.div (expo s j) (∑ j, expo s j)

/-- A number that is neither infinity. -/
def Real' (x : EReal) : Prop := ∃ r : ℝ, x = r

theorem Real'.mul {x y : EReal} : Real' x → Real' y → Real' (x * y) := fun ⟨a, ha⟩ ⟨b, hb⟩ => ⟨a * b, by rw [ha, hb, EReal.coe_mul]⟩

theorem Real'.sum {ι : Type*} (s : Finset ι) (f : ι → EReal) (h : ∀ i ∈ s, Real' (f i)) : Real' (∑ i ∈ s, f i) := by
  classical
  induction s using Finset.induction_on with
  | empty => exact ⟨0, by simp⟩
  | insert a s ha ih =>
    rw [Finset.sum_insert ha]
    obtain ⟨x, hx⟩ := h a (Finset.mem_insert_self _ _)
    obtain ⟨y, hy⟩ := ih fun i hi => h i (Finset.mem_insert_of_mem hi)
    exact ⟨x + y, by rw [hx, hy, EReal.coe_add]⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem eps_pos : ∃ r : ℝ, 0 < r ∧ eps = r := by
  refine ⟨_, ?_, by unfold eps Ideal.ofBits Ideal.ieee; simp; rfl⟩
  positivity

theorem scale_real : Real' scale := ⟨_, rfl⟩

theorem n2048_pos : ∃ r : ℝ, 0 < r ∧ n2048 = r := by
  refine ⟨_, ?_, by unfold n2048 Ideal.ofBits Ideal.ieee; simp; rfl⟩
  positivity

theorem n128_pos : ∃ r : ℝ, 0 < r ∧ n128 = r := by
  refine ⟨_, ?_, by unfold n128 Ideal.ofBits Ideal.ieee; simp; rfl⟩
  positivity

/-- The word of the maximum's start is the least number. -/
theorem start : Ideal.ofBits .f32 0xFF800000#32 = ⊥ := by
  unfold Ideal.ofBits Ideal.ieee
  simp

/-- A finite number divided by a positive one. -/
theorem div_coe (x y : ℝ) (hy : 0 < y) : Ideal.div (x : EReal) (y : EReal) = ((x * y⁻¹ : ℝ) : EReal) := by
  rw [Ideal.div, if_neg (by exact_mod_cast hy.ne'), EReal.coe_mul, EReal.coe_inv]

/-- A sum of numbers that are not negative, one of which is infinite, is infinite. -/
theorem sum_top {ι : Type*} (s : Finset ι) (f : ι → EReal) (h0 : ∀ i, 0 ≤ f i) {k : ι} (hk : k ∈ s) (ht : f k = ⊤) : ∑ i ∈ s, f i = ⊤ := by
  have := Finset.single_le_sum (fun i _ => h0 i) hk
  rw [ht] at this
  exact top_le_iff.1 this

/-- A square is not negative. -/
theorem sq_nonneg' (x : EReal) : 0 ≤ x * x := by
  induction x using EReal.rec with
  | bot => simp
  | coe r => rw [← EReal.coe_mul]; exact_mod_cast mul_self_nonneg r
  | top => simp

/-- A row normalised with a finite gain is finite: the root of an infinite mean square is infinite, and the row is then 0. -/
theorem nrm_real {n : ℕ} {cnt : EReal} (hc : ∃ r : ℝ, 0 < r ∧ cnt = r) {x g : Fin n → EReal} (hg : ∀ k, Real' (g k)) (k : Fin n) :
    Real' (nrm cnt x g k) := by
  obtain ⟨c, hc, rfl⟩ := hc
  obtain ⟨e, he, hee⟩ := eps_pos
  by_cases hx : ∀ k, Real' (x k)
  · choose a ha using hx
    refine Real'.mul (Real'.mul ⟨a k, ha k⟩ ?_) (hg k)
    have hs : (∑ j, x j * x j) = ((∑ j, a j * a j : ℝ) : EReal) := by
      rw [coe_sum]
      exact Finset.sum_congr rfl fun j _ => by rw [ha j, EReal.coe_mul]
    have h0 : 0 ≤ ∑ j, a j * a j := Finset.sum_nonneg fun j _ => mul_self_nonneg _
    have hp : 0 < (∑ j, a j * a j) * c⁻¹ + e := by positivity
    rw [hs, div_coe _ _ hc, hee, ← EReal.coe_add, Ideal.rsqrt_coe, if_neg hp.not_gt, if_neg hp.ne']
    exact ⟨_, rfl⟩
  · obtain ⟨i, hi⟩ := not_forall.1 hx
    have ht : x i * x i = ⊤ := by
      induction h : x i using EReal.rec with
      | bot => simp
      | coe r => exact absurd ⟨r, h⟩ hi
      | top => simp
    have hd : Ideal.div ⊤ (c : EReal) = ⊤ := by
      rw [Ideal.div, if_neg (by exact_mod_cast hc.ne'), ← EReal.coe_inv, EReal.top_mul_coe_of_pos (inv_pos.2 hc)]
    have hr : Ideal.rsqrt ⊤ = 0 := rfl
    refine ⟨0, ?_⟩
    rw [nrm, sum_top _ _ (fun j => sq_nonneg' (x j)) (Finset.mem_univ i) ht, hd, hee, EReal.top_add_coe, hr]
    simp

/-- The maximum of finitely many finite numbers. -/
theorem fold_real (s : Finset (Fin 256)) (f : Fin 256 → ℝ) : Finset.fold max ⊥ (fun j => (f j : EReal)) s = ⊥ ∨ Real' (Finset.fold max ⊥ (fun j => (f j : EReal)) s) := by
  classical
  induction s using Finset.induction_on with
  | empty => left; simp
  | insert a s ha ih =>
    right
    rw [Finset.fold_insert ha]
    rcases ih with h | ⟨r, h⟩
    · exact ⟨f a, by rw [h]; simp⟩
    · rw [h]
      rcases max_choice (f a : EReal) (r : EReal) with h | h
      · exact ⟨_, h⟩
      · exact ⟨_, h⟩

/-- The exponentials of finite scores are finite and positive. -/
theorem expo_real (f : Fin 256 → ℝ) : ∃ p : Fin 256 → ℝ, (∀ j, 0 < p j) ∧ ∀ j, expo (fun j => (f j : EReal)) j = p j := by
  have h : Real' (Finset.fold max ⊥ (fun j => (f j : EReal)) Finset.univ) := by
    rcases fold_real Finset.univ f with h | h
    · exfalso
      rw [← Finset.insert_erase (Finset.mem_univ (0 : Fin 256)), Finset.fold_insert (Finset.notMem_erase _ _)] at h
      have := le_max_left (f 0 : EReal) (Finset.fold max ⊥ (fun j => (f j : EReal)) (Finset.univ.erase 0))
      rw [h] at this
      exact absurd (le_bot_iff.1 this) (EReal.coe_ne_bot _)
    · exact h
  obtain ⟨r, hr⟩ := h
  exact ⟨fun j => Real.exp (f j - r), fun j => Real.exp_pos _, fun j => by rw [expo, hr, ← EReal.coe_sub, Ideal.exp_coe]⟩

/-- A factor that is finite and not negative goes into a sum. -/
theorem sum_mul' {ι : Type*} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top _), ih]

/-- The two orders of normalising agree where the scores are finite. -/
theorem out_eq {s : Fin 256 → EReal} {V : Fin 256 → Fin 128 → EReal} (hs : ∀ j, Real' (s j)) (n : Fin 128) :
    outK s V n = outR s V n := by
  choose f hf using hs
  obtain rfl : s = fun j => (f j : EReal) := funext hf
  obtain ⟨p, hp, he⟩ := expo_real f
  obtain ⟨T, hT⟩ : ∃ T, T = ∑ j, p j := ⟨_, rfl⟩
  have hpos : 0 < T := hT ▸ Finset.sum_pos (fun j _ => hp j) Finset.univ_nonempty
  have hsum : (∑ j, expo (fun j => (f j : EReal)) j) = (T : EReal) := by
    rw [hT, coe_sum]
    exact Finset.sum_congr rfl fun j _ => he j
  unfold outK outR
  rw [hsum]
  have h1 : Ideal.div 1 (T : EReal) = ((T⁻¹ : ℝ) : EReal) := by
    rw [← EReal.coe_one, div_coe _ _ hpos, one_mul]
  rw [h1, sum_mul' _ _ (inv_pos.2 hpos).le]
  refine Finset.sum_congr rfl fun j _ => ?_
  rw [he, div_coe _ _ hpos, EReal.coe_mul, mul_comm _ (V j n), mul_assoc]

/-- The two places of the scale agree where query and keys are finite, and the scores are finite. -/
theorem score_eq {q : Fin 128 → EReal} {K : Fin 256 → Fin 128 → EReal} (hq : ∀ k, Real' (q k)) (hK : ∀ j k, Real' (K j k)) (j : Fin 256) :
    scoreK q K j = scoreR q K j ∧ Real' (scoreR q K j) := by
  choose a ha using hq
  choose b hb using hK
  obtain ⟨c, hc⟩ := scale_real
  have h1 : scoreK q K j = ((∑ k, a k * c * b j k : ℝ) : EReal) := by
    rw [coe_sum]
    exact Finset.sum_congr rfl fun k _ => by rw [ha, hb, hc, EReal.coe_mul, EReal.coe_mul]
  have h2 : scoreR q K j = (((∑ k, a k * b j k) * c : ℝ) : EReal) := by
    rw [EReal.coe_mul, coe_sum, scoreR, hc]
    congr 1
    exact Finset.sum_congr rfl fun k _ => by rw [ha, hb, EReal.coe_mul]
  refine ⟨?_, _, h2⟩
  rw [h1, h2, Finset.sum_mul]
  congr 1
  exact Finset.sum_congr rfl fun k _ => by ring

/-- One head of a row: the kernel's form and the reference's agree where the query's gain and the keys are finite. -/
theorem head_eq {Q : Fin 512 → EReal} {qn : Fin 128 → EReal} {K V : Fin 256 → Fin 128 → EReal}
    (hqn : ∀ k, Real' (qn k)) (hK : ∀ j k, Real' (K j k)) (h : Fin 4) (n : Fin 128) :
    outK (scoreK (head Q qn h) K) V n = outR (scoreR (head Q qn h) K) V n := by
  have hq : ∀ k, Real' (head Q qn h k) := fun k => nrm_real n128_pos hqn k
  rw [funext fun j => (score_eq hq hK j).1]
  exact out_eq (fun j => (score_eq hq hK j).2) n

/-- A row of the stream with the attention's product added, in the kernel's form: each head's keys and values are a
    column slice of the memory. -/
def rowK (x g : Fin 2048 → EReal) (W : Fin 2048 → Fin 512 → EReal) (qn : Fin 128 → EReal) (K V : Fin 256 → Fin 512 → EReal)
    (O : Fin 512 → Fin 2048 → EReal) (n : Fin 2048) : EReal :=
  x n + ∑ c : Fin 512, outK (scoreK (head (query x g W) qn ⟨c.val / 128, by omega⟩) fun j k => K j ⟨c.val / 128 * 128 + k.val, by omega⟩)
    (fun j k => V j ⟨c.val / 128 * 128 + k.val, by omega⟩) ⟨c.val % 128, by omega⟩ * O c n

/-- The same row in the reference's form. -/
def rowR (x g : Fin 2048 → EReal) (W : Fin 2048 → Fin 512 → EReal) (qn : Fin 128 → EReal) (K V : Fin 256 → Fin 512 → EReal)
    (O : Fin 512 → Fin 2048 → EReal) (n : Fin 2048) : EReal :=
  x n + ∑ c : Fin 512, outR (scoreR (head (query x g W) qn ⟨c.val / 128, by omega⟩) fun j k => K j ⟨c.val / 128 * 128 + k.val, by omega⟩)
    (fun j k => V j ⟨c.val / 128 * 128 + k.val, by omega⟩) ⟨c.val % 128, by omega⟩ * O c n

theorem row_eq {x g : Fin 2048 → EReal} {W : Fin 2048 → Fin 512 → EReal} {qn : Fin 128 → EReal} {K V : Fin 256 → Fin 512 → EReal}
    {O : Fin 512 → Fin 2048 → EReal} (hqn : ∀ k, Real' (qn k)) (hK : ∀ j k, Real' (K j k)) : rowK x g W qn K V O = rowR x g W qn K V O :=
  funext fun n => congrArg (x n + ·) (Finset.sum_congr rfl fun c _ => congrArg (· * O c n) (head_eq hqn (fun j k => hK j _) _ _))

end Cert.MemAttn

end
-- ==== Proof.MemKernel.lean ====
/- What the body of the kernel `Kernel6` stores, row by row: the row's attention to the memory tokens added to the stream,
   and that row normalised. -/
module

public import proofs.«01_k».proof.Defs
public import proofs.«01_k».proof.Proof.Gen.Kernel6Ideal.Value
public import proofs.«01_k».proof.Proof.MemRow
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MemAttn

open Cert.Kernel6Ideal Cert.Kernel6Ideal.Gen Idealize.ShloMosaic Idealize.ShloMosaic.TcCoe Idealize.SL.Sem

/-- The query of a tile's rows. -/
theorem query_eq (w : Vec Ideal S1x2048x512 .f32) (x : Vec Ideal S1x256x2048 .f32) (g : Vec Ideal S1x2048 .f32) (r : Fin 256) (c : Fin 512) :
    (k0_pay4 w x g (ix2 r c) : EReal) = query (fun d => x (ix3 0 r d)) (fun d => g (ix2 0 d)) (fun d c => w (ix3 0 d c)) c := by
  unfold k0_pay4 k0_pay3 k0_pay1 query nrm
  pointwise
  rfl

/-- The first head's scores. -/
theorem score0 (Q : FVec Ideal S256x512 .f32) (qn : Vec Ideal S1x128 .f32) (k : Vec Ideal S1x1x256x128 .bf16) (r : Fin 256) (j : Fin 256) :
    (k0_pay9 Q qn k (ix2 r j) : EReal) = scoreK (head (fun c => Q (ix2 r c)) (fun d => qn (ix2 0 d)) 0) (fun j d => k (ix4 0 0 j d)) j := by
  unfold k0_pay9 scoreK head nrm
  pointwise
  rfl

/-- The second head's scores. -/
theorem score1 (Q : FVec Ideal S256x512 .f32) (qn : Vec Ideal S1x128 .f32) (k : Vec Ideal S1x1x256x128 .bf16) (r : Fin 256) (j : Fin 256) :
    (k0_pay11 (k0_pay10 Q qn) k (ix2 r j) : EReal) = scoreK (head (fun c => Q (ix2 r c)) (fun d => qn (ix2 0 d)) 1) (fun j d => k (ix4 0 0 j d)) j := by
  unfold k0_pay11 k0_pay10 scoreK head nrm
  pointwise
  rfl

/-- The third head's scores. -/
theorem score2 (Q : FVec Ideal S256x512 .f32) (qn : Vec Ideal S1x128 .f32) (k : Vec Ideal S1x1x256x128 .bf16) (r : Fin 256) (j : Fin 256) :
    (k0_pay12 Q qn k (ix2 r j) : EReal) = scoreK (head (fun c => Q (ix2 r c)) (fun d => qn (ix2 0 d)) 2) (fun j d => k (ix4 0 0 j d)) j := by
  unfold k0_pay12 scoreK head nrm
  pointwise
  rfl

/-- The fourth head's slice of the query. -/
theorem slice3 (Q : FVec Ideal S256x512 .f32) (r : Fin 256) (k : Fin 128) : (k0_pay13 Q (ix2 r k) : EReal) = Q (ix2 r ⟨384 + k.val, by omega⟩) := by
  unfold k0_pay13
  pointwise

/-- The fourth head's scores. -/
theorem score3 (Q : FVec Ideal S256x512 .f32) (qn : Vec Ideal S1x128 .f32) (k : Vec Ideal S1x1x256x128 .bf16) (r : Fin 256) (j : Fin 256) :
    (k0_pay16 (k0_pay13 Q) (k0_pay14 qn) (k0_pay15 Q) k (ix2 r j) : EReal) = scoreK (head (fun c => Q (ix2 r c)) (fun d => qn (ix2 0 d)) 3) (fun j d => k (ix4 0 0 j d)) j := by
  unfold k0_pay16 k0_pay14 k0_pay15 scoreK head nrm
  pointwise
  simp only [slice3]
  rfl

/-- The exponentials of a row's scores. -/
theorem expo_eq (s : FVec Ideal S256x256 .f32) (r j : Fin 256) : (k0_pay27 s (ix2 r j) : EReal) = expo (fun j => s (ix2 r j)) j := by
  unfold k0_pay27 expo
  pointwise
  rw [start]

/-- One head's result. -/
theorem out_row (s : FVec Ideal S256x256 .f32) (v : Vec Ideal S1x1x256x128 .bf16) (r : Fin 256) (n : Fin 128) :
    (k0_pay45 (k0_pay27 s) (k0_pay31 s v) (ix2 r n) : EReal) = outK (fun j => s (ix2 r j)) (fun j d => v (ix4 0 0 j d)) n := by
  unfold k0_pay45 k0_pay31 outK
  pointwise
  simp only [expo_eq]

/-- A half tile's stream after the attention, as the body computes it. -/
def streamK (w : Vec Ideal S1x2048x512 .f32) (x : Vec Ideal S1x256x2048 .f32) (g : Vec Ideal S1x2048 .f32) (qn : Vec Ideal S1x128 .f32)
    (k0 k1 k2 k3 v0 v1 v2 v3 : Vec Ideal S1x1x256x128 .bf16) (wo : Vec Ideal S1x512x2048 .f32) : FVec Ideal S256x2048 .f32 :=
  k0_pay49 (k0_pay2 wo) (k0_pay3 x)
    (k0_pay45 (k0_pay27 (k0_pay9 (k0_pay4 w x g) qn k0)) (k0_pay31 (k0_pay9 (k0_pay4 w x g) qn k0) v0))
    (k0_pay45 (k0_pay27 (k0_pay11 (k0_pay10 (k0_pay4 w x g) qn) k1)) (k0_pay31 (k0_pay11 (k0_pay10 (k0_pay4 w x g) qn) k1) v1))
    (k0_pay45 (k0_pay27 (k0_pay12 (k0_pay4 w x g) qn k2)) (k0_pay31 (k0_pay12 (k0_pay4 w x g) qn k2) v2))
    (k0_pay45 (k0_pay27 (k0_pay16 (k0_pay13 (k0_pay4 w x g)) (k0_pay14 qn) (k0_pay15 (k0_pay4 w x g)) k3)) (k0_pay31 (k0_pay16 (k0_pay13 (k0_pay4 w x g)) (k0_pay14 qn) (k0_pay15 (k0_pay4 w x g)) k3) v3))

/-- A half tile's stream, row by row. -/
theorem stream_row (w : Vec Ideal S1x2048x512 .f32) (x : Vec Ideal S1x256x2048 .f32) (g : Vec Ideal S1x2048 .f32) (qn : Vec Ideal S1x128 .f32)
    (k0 k1 k2 k3 v0 v1 v2 v3 : Vec Ideal S1x1x256x128 .bf16) (wo : Vec Ideal S1x512x2048 .f32) (K V : Fin 256 → Fin 512 → EReal)
    (hk0 : ∀ j k, (k0 (ix4 0 0 j k) : EReal) = K j ⟨0 * 128 + k.val, by omega⟩) (hk1 : ∀ j k, (k1 (ix4 0 0 j k) : EReal) = K j ⟨1 * 128 + k.val, by omega⟩)
    (hk2 : ∀ j k, (k2 (ix4 0 0 j k) : EReal) = K j ⟨2 * 128 + k.val, by omega⟩) (hk3 : ∀ j k, (k3 (ix4 0 0 j k) : EReal) = K j ⟨3 * 128 + k.val, by omega⟩)
    (hv0 : ∀ j k, (v0 (ix4 0 0 j k) : EReal) = V j ⟨0 * 128 + k.val, by omega⟩) (hv1 : ∀ j k, (v1 (ix4 0 0 j k) : EReal) = V j ⟨1 * 128 + k.val, by omega⟩)
    (hv2 : ∀ j k, (v2 (ix4 0 0 j k) : EReal) = V j ⟨2 * 128 + k.val, by omega⟩) (hv3 : ∀ j k, (v3 (ix4 0 0 j k) : EReal) = V j ⟨3 * 128 + k.val, by omega⟩)
    (r : Fin 256) (n : Fin 2048) :
    (streamK w x g qn k0 k1 k2 k3 v0 v1 v2 v3 wo (ix2 r n) : EReal)
      = rowK (fun d => x (ix3 0 r d)) (fun d => g (ix2 0 d)) (fun d c => w (ix3 0 d c)) (fun d => qn (ix2 0 d)) K V (fun c n => wo (ix3 0 c n)) n := by
  unfold streamK k0_pay49 k0_pay2 k0_pay3 rowK
  pointwise
  refine congrArg₂ (· + ·) rfl (Finset.sum_congr rfl fun c _ => congrArg₂ (· * ·) ?_ rfl)
  simp only [out_row, score0, score1, score2, score3, query_eq, hk0, hk1, hk2, hk3, hv0, hv1, hv2, hv3]
  have key : ∀ (h h' : Fin 4) (k k' : Fin 128) (_ : h = h') (_ : k = k'),
      outK (scoreK (head (query (fun d => x (ix3 0 r d)) (fun d => g (ix2 0 d)) (fun d c => w (ix3 0 d c))) (fun d => qn (ix2 0 d)) h) fun j k => K j ⟨h.val * 128 + k.val, by omega⟩)
        (fun j k => V j ⟨h.val * 128 + k.val, by omega⟩) k
      = outK (scoreK (head (query (fun d => x (ix3 0 r d)) (fun d => g (ix2 0 d)) (fun d c => w (ix3 0 d c))) (fun d => qn (ix2 0 d)) h') fun j k => K j ⟨h'.val * 128 + k.val, by omega⟩)
        (fun j k => V j ⟨h'.val * 128 + k.val, by omega⟩) k' := by
    rintro h _ k _ rfl rfl
    rfl
  by_cases h1 : c.val < 128
  · rw [dif_pos h1]
    exact key 0 _ ⟨c.val, h1⟩ _ (Fin.ext (by show 0 = c.val / 128; omega)) (Fin.ext (by show c.val = c.val % 128; omega))
  rw [dif_neg h1]
  by_cases h2 : c.val - 128 < 128
  · rw [dif_pos h2]
    exact key 1 _ ⟨c.val - 128, h2⟩ _ (Fin.ext (by show 1 = c.val / 128; omega)) (Fin.ext (by show c.val - 128 = c.val % 128; omega))
  rw [dif_neg h2]
  by_cases h3 : c.val - 128 - 128 < 128
  · rw [dif_pos h3]
    exact key 2 _ ⟨c.val - 128 - 128, h3⟩ _ (Fin.ext (by show 2 = c.val / 128; omega)) (Fin.ext (by show c.val - 128 - 128 = c.val % 128; omega))
  rw [dif_neg h3]
  exact key 3 _ ⟨c.val - 128 - 128 - 128, by omega⟩ _ (Fin.ext (by show 3 = c.val / 128; omega)) (Fin.ext (by show c.val - 128 - 128 - 128 = c.val % 128; omega))

/-- The second result's row is the first's normalised. -/
theorem norm_row (y : FVec Ideal S256x2048 .f32) (g : Vec Ideal S1x2048 .f32) (r : Fin 256) (n : Fin 2048) :
    (k0_pay56 y g (ix3 0 r n) : EReal) = nrm n2048 (fun d => y (ix2 r d)) (fun d => g (ix2 0 d)) n := by
  unfold k0_pay56 nrm
  pointwise
  rfl

/-- The stored stream. -/
theorem store_row (y : FVec Ideal S256x2048 .f32) (r : Fin 256) (n : Fin 2048) : (k0_pay55 y (ix3 0 r n) : EReal) = y (ix2 r n) := by
  unfold k0_pay55
  pointwise

section
variable (x0 : Vec Ideal S1x512x2048 .f32) (x1 : Vec Ideal S1x2048 .f32) (x2 : Vec Ideal S1x2048x512 .f32) (x3 x4 : Vec Ideal S1x1x256x512 .bf16)
  (x5 : Vec Ideal S1x512x2048 .f32) (x6 : Vec Ideal S1x128 .f32) (x7 : Vec Ideal S1x2048 .f32)

/-- The half at the rows that `R` reads. -/
def half (R : Vec Ideal S1x256x2048 .f32) : FVec Ideal S256x2048 .f32 :=
  streamK (View.ld x2 r0_0) R (View.ld x1 r0_3) (View.ld x6 r0_5) (View.ld x3 r0_6) (View.ld x3 r0_7) (View.ld x3 r0_8) (View.ld x3 r0_9)
    (View.ld x4 r0_6) (View.ld x4 r0_7) (View.ld x4 r0_8) (View.ld x4 r0_9) (View.ld x5 r0_1)

/-- The first half's stream. -/
theorem first8 : k0_pay51 (k0_pay57 x0 x1 x2 x3 x4 x5 x6 x7) (k0_pay58 x0 x1 x2 x3 x4 x5 x6 x7) (k0_pay70 x0 x1 x2 x3 x4 x5 x6 x7) (k0_pay71 x0 x1 x2 x3 x4 x5 x6 x7) (k0_pay72 x0 x1 x2 x3 x4 x5 x6 x7) (k0_pay73 x0 x1 x2 x3 x4 x5 x6 x7)
    = k0_pay55 (half x1 x2 x3 x4 x5 x6 (View.ld x0 r0_2)) := rfl

/-- The second half's stream. -/
theorem second8 : k0_pay74 x0 x1 x2 x3 x4 x5 x6 x7 = half x1 x2 x3 x4 x5 x6 (View.ld x0 r0_4) := rfl

/-- A half's rows. -/
theorem half_row (R : Vec Ideal S1x256x2048 .f32) (r : Fin 256) (n : Fin 2048) : (half x1 x2 x3 x4 x5 x6 R (ix2 r n) : EReal)
    = rowK (fun d => R (ix3 0 r d)) (fun d => x1 (ix2 0 d)) (fun d c => x2 (ix3 0 d c)) (fun d => x6 (ix2 0 d)) (fun j c => x3 (ix4 0 0 j c)) (fun j c => x4 (ix4 0 0 j c)) (fun c n => x5 (ix3 0 c n)) n := by
  have e1 : View.ld x1 r0_3 = x1 := View.ld_unit_zero (S := S1x2048) (by decide) _ _
  have e2 : View.ld x2 r0_0 = x2 := View.ld_unit_zero (S := S1x2048x512) (by decide) _ _
  have e5 : View.ld x5 r0_1 = x5 := View.ld_unit_zero (S := S1x512x2048) (by decide) _ _
  have e6 : View.ld x6 r0_5 = x6 := View.ld_unit_zero (S := S1x128) (by decide) _ _
  unfold half
  rw [e1, e2, e5, e6]
  refine stream_row _ _ _ _ _ _ _ _ _ _ _ _ _ _ _ (fun j k => ?_) (fun j k => ?_) (fun j k => ?_) (fun j k => ?_) (fun j k => ?_) (fun j k => ?_) (fun j k => ?_) (fun j k => ?_) r n
  all_goals
    refine View.ld_unit_apply_of _ _ _ _ _ _ fun a => ?_
    match a with
    | ⟨0, _⟩ => rfl
    | ⟨1, _⟩ => rfl
    | ⟨2, _⟩ => simp
    | ⟨3, _⟩ => simp

/-- The stream's block, row by row. -/
def rows (y : S1x512x2048.Idx) : EReal :=
  rowK (fun d => x0 (ix3 0 (y 1) d)) (fun d => x1 (ix2 0 d)) (fun d c => x2 (ix3 0 d c)) (fun d => x6 (ix2 0 d)) (fun j c => x3 (ix4 0 0 j c)) (fun j c => x4 (ix4 0 0 j c)) (fun c n => x5 (ix3 0 c n)) (y 2)

/-- The normalised stream's block, row by row. -/
def nrows (y : S1x512x2048.Idx) : EReal :=
  nrm n2048 (rowK (fun d => x0 (ix3 0 (y 1) d)) (fun d => x1 (ix2 0 d)) (fun d c => x2 (ix3 0 d c)) (fun d => x6 (ix2 0 d)) (fun j c => x3 (ix4 0 0 j c)) (fun j c => x4 (ix4 0 0 j c)) (fun c n => x5 (ix3 0 c n)))
    (fun d => x7 (ix2 0 d)) (y 2)

/-- The first half's normalised stream. -/
theorem first9 : k0_pay54 (k0_pay49 (k0_pay57 x0 x1 x2 x3 x4 x5 x6 x7) (k0_pay58 x0 x1 x2 x3 x4 x5 x6 x7) (k0_pay70 x0 x1 x2 x3 x4 x5 x6 x7) (k0_pay71 x0 x1 x2 x3 x4 x5 x6 x7) (k0_pay72 x0 x1 x2 x3 x4 x5 x6 x7) (k0_pay73 x0 x1 x2 x3 x4 x5 x6 x7))
    (k0_pay52 (View.ld x7 r0_3)) (k0_pay53 (k0_pay57 x0 x1 x2 x3 x4 x5 x6 x7) (k0_pay58 x0 x1 x2 x3 x4 x5 x6 x7) (k0_pay70 x0 x1 x2 x3 x4 x5 x6 x7) (k0_pay71 x0 x1 x2 x3 x4 x5 x6 x7) (k0_pay72 x0 x1 x2 x3 x4 x5 x6 x7) (k0_pay73 x0 x1 x2 x3 x4 x5 x6 x7)) (FloatOps.ofBits .f32 0x45000000#32)
    = k0_pay56 (half x1 x2 x3 x4 x5 x6 (View.ld x0 r0_2)) (View.ld x7 r0_3) := rfl

/-- The row that the second half's load reads. -/
theorem ld4 (r : Fin 256) : (fun d : Fin 2048 => (View.ld x0 r0_4 (ix3 0 r d) : EReal)) = fun d => x0 (ix3 0 ⟨256 + r.val, by omega⟩ d) :=
  funext fun d => View.ld_unit_apply_of _ _ _ _ _ _ fun a => match a with
    | ⟨0, _⟩ => rfl
    | ⟨1, _⟩ => by simp
    | ⟨2, _⟩ => by simp

/-- The row that the first half's load reads. -/
theorem ld2 (r : Fin 256) : (fun d : Fin 2048 => (View.ld x0 r0_2 (ix3 0 r d) : EReal)) = fun d => x0 (ix3 0 ⟨r.val, by omega⟩ d) :=
  funext fun d => View.ld_unit_apply_of _ _ _ _ _ _ fun a => match a with
    | ⟨0, _⟩ => rfl
    | ⟨1, _⟩ => by simp
    | ⟨2, _⟩ => by simp

/-- The first result's block. -/
theorem block8 (y : S1x512x2048.Idx) : out0_8 x0 x1 x2 x3 x4 x5 x6 x7 y = rows x0 x1 x2 x3 x4 x5 x6 y := by
  unfold out0_8
  rw [first8, second8]
  refine View.canon_append_of_piecesOf (Val := Elt Ideal) (rows x0 x1 x2 x3 x4 x5 x6) [] [_, _] ⟨fun x => ?_, fun x => ?_, trivial⟩ y (cover0_8 _ _ y)
  · obtain ⟨a, r, n, rfl⟩ : ∃ (a : Fin 1) (r : Fin 256) (n : Fin 2048), x = ix3 a r n := ⟨x 0, x 1, x 2, by ext a; match a with | ⟨0, _⟩ => rfl | ⟨1, _⟩ => rfl | ⟨2, _⟩ => rfl⟩
    obtain rfl : a = 0 := Subsingleton.elim _ _
    refine (store_row _ r n).trans ((half_row _ _ _ _ _ _ _ r n).trans ?_)
    rw [ld4]
    exact congrArg₂ (fun R n => rowK (fun d => x0 (ix3 0 R d)) (fun d => x1 (ix2 0 d)) (fun d c => x2 (ix3 0 d c)) (fun d => x6 (ix2 0 d)) (fun j c => x3 (ix4 0 0 j c)) (fun j c => x4 (ix4 0 0 j c)) (fun c n => x5 (ix3 0 c n)) n)
      (Fin.ext (by simp [Rect.emb, Rect.unit])) (Fin.ext (by simp [Rect.emb, Rect.unit]))
  · obtain ⟨a, r, n, rfl⟩ : ∃ (a : Fin 1) (r : Fin 256) (n : Fin 2048), x = ix3 a r n := ⟨x 0, x 1, x 2, by ext a; match a with | ⟨0, _⟩ => rfl | ⟨1, _⟩ => rfl | ⟨2, _⟩ => rfl⟩
    obtain rfl : a = 0 := Subsingleton.elim _ _
    refine (store_row _ r n).trans ((half_row _ _ _ _ _ _ _ r n).trans ?_)
    rw [ld2]
    exact congrArg₂ (fun R n => rowK (fun d => x0 (ix3 0 R d)) (fun d => x1 (ix2 0 d)) (fun d c => x2 (ix3 0 d c)) (fun d => x6 (ix2 0 d)) (fun j c => x3 (ix4 0 0 j c)) (fun j c => x4 (ix4 0 0 j c)) (fun c n => x5 (ix3 0 c n)) n)
      (Fin.ext (by simp [Rect.emb, Rect.unit])) (Fin.ext (by simp [Rect.emb, Rect.unit]))

/-- The second result's block. -/
theorem block9 (y : S1x512x2048.Idx) : out0_9 x0 x1 x2 x3 x4 x5 x6 x7 y = nrows x0 x1 x2 x3 x4 x5 x6 x7 y := by
  have e7 : View.ld x7 r0_3 = x7 := View.ld_unit_zero (S := S1x2048) (by decide) _ _
  unfold out0_9
  rw [first9, second8]
  refine View.canon_append_of_piecesOf (Val := Elt Ideal) (nrows x0 x1 x2 x3 x4 x5 x6 x7) [] [_, _] ⟨fun x => ?_, fun x => ?_, trivial⟩ y (cover0_9 _ _ y)
  · obtain ⟨a, r, n, rfl⟩ : ∃ (a : Fin 1) (r : Fin 256) (n : Fin 2048), x = ix3 a r n := ⟨x 0, x 1, x 2, by ext a; match a with | ⟨0, _⟩ => rfl | ⟨1, _⟩ => rfl | ⟨2, _⟩ => rfl⟩
    obtain rfl : a = 0 := Subsingleton.elim _ _
    refine (norm_row _ _ r n).trans ?_
    rw [funext fun d => half_row _ _ _ _ _ _ _ r d, ld4, e7]
    exact congrArg₂ (fun R n => nrm n2048 (rowK (fun d => x0 (ix3 0 R d)) (fun d => x1 (ix2 0 d)) (fun d c => x2 (ix3 0 d c)) (fun d => x6 (ix2 0 d)) (fun j c => x3 (ix4 0 0 j c)) (fun j c => x4 (ix4 0 0 j c)) (fun c n => x5 (ix3 0 c n))) (fun d => x7 (ix2 0 d)) n)
      (Fin.ext (by simp [Rect.emb, Rect.unit])) (Fin.ext (by simp [Rect.emb, Rect.unit]))
  · obtain ⟨a, r, n, rfl⟩ : ∃ (a : Fin 1) (r : Fin 256) (n : Fin 2048), x = ix3 a r n := ⟨x 0, x 1, x 2, by ext a; match a with | ⟨0, _⟩ => rfl | ⟨1, _⟩ => rfl | ⟨2, _⟩ => rfl⟩
    obtain rfl : a = 0 := Subsingleton.elim _ _
    refine (norm_row _ _ r n).trans ?_
    rw [funext fun d => half_row _ _ _ _ _ _ _ r d, ld2, e7]
    exact congrArg₂ (fun R n => nrm n2048 (rowK (fun d => x0 (ix3 0 R d)) (fun d => x1 (ix2 0 d)) (fun d c => x2 (ix3 0 d c)) (fun d => x6 (ix2 0 d)) (fun j c => x3 (ix4 0 0 j c)) (fun j c => x4 (ix4 0 0 j c)) (fun c n => x5 (ix3 0 c n))) (fun d => x7 (ix2 0 d)) n)
      (Fin.ext (by simp [Rect.emb, Rect.unit])) (Fin.ext (by simp [Rect.emb, Rect.unit]))

end

end Cert.MemAttn

end
-- ==== Proof.MemRef.lean ====
/- The reference's results of the attention to the memory tokens, read at an index. -/
module

public import proofs.«01_k».proof.Defs
public import proofs.«01_k».proof.Proof.Gen.Reference6Ideal.Run
public import proofs.«01_k».proof.Proof.MemRow
public import Idealize.ShloMosaic.Lib.Pipeline.ValueKit
public import Idealize.ShloMosaic.Lib.Pointwise

@[expose] public section

set_option maxRecDepth 16384

noncomputable section

namespace Cert.MemAttn

open Cert.Reference6Ideal Cert.Reference6Ideal.Gen Idealize.ShloMosaic Idealize.ShloMosaic.TcCoe Idealize.SL.Sem

/-- The queries. -/
def refQ (h : FVec Ideal S4x2048x2048 .f32) (g : FVec Ideal S2048 .f32) (W : FVec Ideal S2x2048x512 .f32) : FVec Ideal S4x2048x512 .f32 :=
  Host.dotGeneral dot_S4x2048x2048_S2048x512_S4x2048x512_2_0_01_1_n_n none (mulf (mulf h (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf h h) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 g))) (shapeCast _ (extractStridedSlice S1x2048x512 ![1, 0, 0] W slices_S2x2048x512_S1x2048x512_1_0_0) shapeCasts_S1x2048x512_S2048x512)

/-- The heads' normalised queries. -/
def refH (Q : FVec Ideal S4x2048x512 .f32) (qn : FVec Ideal S128 .f32) : FVec Ideal S4x2048x4x128 .f32 :=
  mulf (mulf (shapeCast S4x2048x4x128 Q shapeCasts_S4x2048x512_S4x2048x4x128) (broadcastInDim S4x2048x4x128 ![0, 1, 2, 3] bcast_S4x2048x4x1_S4x2048x4x128_0_1_2_3 (Host.rsqrt (addf (Host.divf (broadcastInDim S4x2048x4x1 ![0, 1, 2] bcast_S4x2048x4_S4x2048x4x1_0_1_2 (Host.reduceAdd (mulf (shapeCast S4x2048x4x128 Q shapeCasts_S4x2048x512_S4x2048x4x128) (shapeCast S4x2048x4x128 Q shapeCasts_S4x2048x512_S4x2048x4x128)) (constant S_ .f32 0x00000000#32) reducesTo_S4x2048x4x128_S4x2048x4_d3 h_S_)) (broadcastInDim S4x2048x4x1 ![] bcast_S_S4x2048x4x1 (constant S_ .f32 0x43000000#32))) (broadcastInDim S4x2048x4x1 ![] bcast_S_S4x2048x4x1 (constant S_ .f32 0x358637BD#32)))))) (broadcastInDim S4x2048x4x128 ![0, 1, 2, 3] bcast_S1x1x1x128_S4x2048x4x128_0_1_2_3 (broadcastInDim S1x1x1x128 ![3] bcast_S128_S1x1x1x128_3 qn))

/-- The scores. -/
def refS (H : FVec Ideal S4x2048x4x128 .f32) (K : FVec Ideal S2x4x256x512 .bf16) : FVec Ideal S4x4x2048x256 .f32 :=
  Host.divf (Host.dotGeneral dot_S4x2048x4x128_S4x256x4x128_S4x4x2048x256_3_3_1_1_02_02 none H (shapeCast _ (extf .f32 (shapeCast _ (extractStridedSlice S1x4x256x512 ![1, 0, 0, 0] K slices_S2x4x256x512_S1x4x256x512_1_0_0_0) shapeCasts_S1x4x256x512_S4x256x512) bitsLt_bf16_f32) shapeCasts_S4x256x512_S4x256x4x128)) (broadcastInDim S4x4x2048x256 ![] bcast_S_S4x4x2048x256 (Host.sqrt (constant S_ .f32 0x43000000#32)))

/-- The scores' maxima. -/
def refM (S : FVec Ideal S4x4x2048x256 .f32) : FVec Ideal S4x4x2048 .f32 :=
  maximumf (broadcastInDim S4x4x2048 ![] bcast_S_S4x4x2048 (constant S_ .f32 0xFF800000#32)) (Host.reduce FloatOps.maximumf S (constant S_ .f32 0xFF800000#32) reducesTo_S4x4x2048x256_S4x4x2048_d3 h_S_)

/-- The exponentials. -/
def refE (S : FVec Ideal S4x4x2048x256 .f32) (M : FVec Ideal S4x4x2048 .f32) : FVec Ideal S4x4x2048x256 .f32 :=
  Host.exp (subf S (broadcastInDim S4x4x2048x256 ![0, 1, 2, 3] bcast_S4x4x2048x1_S4x4x2048x256_0_1_2_3 (broadcastInDim S4x4x2048x1 ![0, 1, 2] bcast_S4x4x2048_S4x4x2048x1_0_1_2 M)))

/-- The stream after the attention. -/
def refY (h : FVec Ideal S4x2048x2048 .f32) (E : FVec Ideal S4x4x2048x256 .f32) (V : FVec Ideal S2x4x256x512 .bf16) (O : FVec Ideal S2x512x2048 .f32) : FVec Ideal S4x2048x2048 .f32 :=
  addf h (Host.dotGeneral dot_S4x2048x512_S512x2048_S4x2048x2048_2_0_01_1_n_n none (shapeCast _ (transpose S4x2048x4x128 [0, 3, 1, 2] (Host.dotGeneral dot_S4x256x4x128_S4x4x2048x256_S4x4x128x2048_1_3_3_2_02_01 none (shapeCast _ (extf .f32 (shapeCast _ (extractStridedSlice S1x4x256x512 ![1, 0, 0, 0] V slices_S2x4x256x512_S1x4x256x512_1_0_0_0) shapeCasts_S1x4x256x512_S4x256x512) bitsLt_bf16_f32) shapeCasts_S4x256x512_S4x256x4x128) (Host.divf E (broadcastInDim S4x4x2048x256 ![0, 1, 2, 3] bcast_S4x4x2048x1_S4x4x2048x256_0_1_2_3 (broadcastInDim S4x4x2048x1 ![0, 1, 2] bcast_S4x4x2048_S4x4x2048x1_0_1_2 (Host.reduceAdd E (constant S_ .f32 0x00000000#32) reducesTo_S4x4x2048x256_S4x4x2048_d3 h_S_))))) transposes_S4x4x128x2048_S4x2048x4x128_0_3_1_2) shapeCasts_S4x2048x4x128_S4x2048x512) (shapeCast _ (extractStridedSlice S1x512x2048 ![1, 0, 0] O slices_S2x512x2048_S1x512x2048_1_0_0) shapeCasts_S1x512x2048_S512x2048))

theorem refQ_row (h : FVec Ideal S4x2048x2048 .f32) (g : FVec Ideal S2048 .f32) (W : FVec Ideal S2x2048x512 .f32) (b : Fin 4) (r : Fin 2048) (k : Fin 512) :
    (refQ h g W (ix3 b r k) : EReal) = query (fun d => h (ix3 b r d)) (fun d => g (ix1 d)) (fun d k => W (ix3 1 d k)) k := by
  unfold refQ query nrm
  pointwise
  rfl

theorem refH_row (Q : FVec Ideal S4x2048x512 .f32) (qn : FVec Ideal S128 .f32) (b : Fin 4) (r : Fin 2048) (i : Fin 4) (k : Fin 128) :
    (refH Q qn (ix4 b r i k) : EReal) = head (fun k => Q (ix3 b r k)) (fun d => qn (ix1 d)) i k := by
  unfold refH head nrm
  pointwise
  rfl

/-- A quotient by the root of the head's width is a product with the scale. -/
theorem div_root (x : EReal) : Ideal.div x (Ideal.sqrt (Ideal.ofBits .f32 0x43000000#32)) = x * scale := by
  have h128 : Ideal.ofBits .f32 0x43000000#32 = ((128 : ℝ) : EReal) := by
    simp [Ideal.ofBits, Ideal.ieee, -EReal.coe_mul]; norm_num
  rw [h128, Ideal.sqrt_coe, if_neg (by norm_num), Ideal.div_coe (Real.sqrt_pos.mpr (by norm_num)).ne', one_div]
  rfl

theorem refS_row (H : FVec Ideal S4x2048x4x128 .f32) (K : FVec Ideal S2x4x256x512 .bf16) (b i : Fin 4) (r : Fin 2048) (j : Fin 256) :
    (refS H K (ix4 b i r j) : EReal) = scoreR (fun k => H (ix4 b r i k)) (fun j k => K (ix4 1 b j ⟨i.val * 128 + k.val, by omega⟩)) j := by
  unfold refS scoreR
  pointwise
  exact div_root _

/-- A maximum over the last of four axes, at an index. -/
theorem max_last {n0 n1 n2 n3 : ℕ} (v : FVec Ideal ⟨4, ![n0, n1, n2, n3]⟩ .f32) (c : FVec Ideal S_ .f32) (h : (⟨4, ![n0, n1, n2, n3]⟩ : Shape).ReducesTo [3] ⟨3, ![n0, n1, n2]⟩)
    (hu : 0 < S_.numel) (j0 : Fin n0) (j1 : Fin n1) (j2 : Fin n2) :
    Host.reduce (α := Ideal .f32) (FloatOps.maximumf : Ideal .f32 → Ideal .f32 → Ideal .f32) v c h hu (ix3 j0 j1 j2) = Finset.univ.fold max (c (Shape.Idx.first hu)) fun k : Fin n3 => v (ix4 j0 j1 j2 k) := by
  simp only [pointwise]

/-- A maximum with the word of the maximum's start. -/
theorem max_start (x : EReal) : max (Ideal.ofBits .f32 0xFF800000#32) x = x := by
  rw [start]
  exact max_eq_right bot_le

/-- A maximum with a constant array, at an index. -/
theorem max_const {t : Shape} (h : S_.BroadcastsInDim t (![] : Fin 0 → Fin t.rank)) (R : FVec Ideal t .f32) (j : t.Idx) :
    (maximumf (broadcastInDim t ![] h (constant S_ .f32 0xFF800000#32)) R j : EReal) = max (Ideal.ofBits .f32 0xFF800000#32) (R j) := rfl

/-- The maximum over the last of four axes from its start, at an index. -/
theorem max_row {n0 n1 n2 n3 : ℕ} (v : FVec Ideal ⟨4, ![n0, n1, n2, n3]⟩ .f32) (h : (⟨4, ![n0, n1, n2, n3]⟩ : Shape).ReducesTo [3] ⟨3, ![n0, n1, n2]⟩)
    (hb : S_.BroadcastsInDim ⟨3, ![n0, n1, n2]⟩ (![] : Fin 0 → Fin 3)) (hu : 0 < S_.numel) (j0 : Fin n0) (j1 : Fin n1) (j2 : Fin n2) :
    maximumf (broadcastInDim ⟨3, ![n0, n1, n2]⟩ ![] hb (constant S_ .f32 0xFF800000#32)) (Host.reduce (α := Ideal .f32) (FloatOps.maximumf : Ideal .f32 → Ideal .f32 → Ideal .f32) v (constant S_ .f32 0xFF800000#32) h hu) (ix3 j0 j1 j2)
      = Finset.univ.fold max (⊥ : EReal) fun k : Fin n3 => v (ix4 j0 j1 j2 k) := by
  refine (max_const _ _ _).trans ((max_start _).trans ((max_last v _ h hu j0 j1 j2).trans ?_))
  exact congrArg (fun e : EReal => Finset.univ.fold max e fun k : Fin n3 => v (ix4 j0 j1 j2 k)) start

theorem refM_row (S : FVec Ideal S4x4x2048x256 .f32) (b i : Fin 4) (r : Fin 2048) :
    (refM S (ix3 b i r) : EReal) = Finset.univ.fold max ⊥ fun j => S (ix4 b i r j) :=
  max_row S _ _ _ b i r

theorem refE_row (S : FVec Ideal S4x4x2048x256 .f32) (M : FVec Ideal S4x4x2048 .f32) (b i : Fin 4) (r : Fin 2048) (j : Fin 256) :
    (refE S M (ix4 b i r j) : EReal) = Ideal.exp (S (ix4 b i r j) - M (ix3 b i r)) := by
  unfold refE
  pointwise

theorem refY_row (h : FVec Ideal S4x2048x2048 .f32) (E : FVec Ideal S4x4x2048x256 .f32) (V : FVec Ideal S2x4x256x512 .bf16) (O : FVec Ideal S2x512x2048 .f32)
    (b : Fin 4) (r n : Fin 2048) : (refY h E V O (ix3 b r n) : EReal)
    = h (ix3 b r n) + ∑ c : Fin 512, (∑ j, V (ix4 1 b j c) * Ideal.div (E (ix4 b ⟨c.val / 128, by omega⟩ r j)) (∑ j, E (ix4 b ⟨c.val / 128, by omega⟩ r j))) * O (ix3 1 c n) := by
  unfold refY
  pointwise

variable (m : (ℓ : Loc nD τ sig) → Buf (Elt Ideal) ℓ)

/-- The reference's scores. -/
def scores (c : Dev nD) : FVec Ideal S4x4x2048x256 .f32 :=
  refS (refH (refQ (m ((c.tc : Thread nD τ).loc main_arg0)) (m ((c.tc : Thread nD τ).loc main_arg1)) (m ((c.tc : Thread nD τ).loc main_arg2))) (m ((c.tc : Thread nD τ).loc main_arg6))) (m ((c.tc : Thread nD τ).loc main_arg3))

/-- The reference's first result, in its steps. -/
theorem steps (c : Dev nD) : Cert.Reference6Ideal.Value.res_main_v59 m c = refY (m ((c.tc : Thread nD τ).loc main_arg0))
    (refE (scores m c) (refM (scores m c)))
    (m ((c.tc : Thread nD τ).loc main_arg4)) (m ((c.tc : Thread nD τ).loc main_arg5)) := rfl

/-- The reference's first result at an index. -/
theorem ref58 (c : Dev nD) (b : Fin 4) (r n : Fin 2048) : (Cert.Reference6Ideal.Value.res_main_v59 m c (ix3 b r n) : EReal)
    = rowR (fun d => m ((c.tc : Thread nD τ).loc main_arg0) (ix3 b r d)) (fun d => m ((c.tc : Thread nD τ).loc main_arg1) (ix1 d))
      (fun d k => m ((c.tc : Thread nD τ).loc main_arg2) (ix3 1 d k)) (fun d => m ((c.tc : Thread nD τ).loc main_arg6) (ix1 d))
      (fun j k => m ((c.tc : Thread nD τ).loc main_arg3) (ix4 1 b j k)) (fun j k => m ((c.tc : Thread nD τ).loc main_arg4) (ix4 1 b j k))
      (fun k n => m ((c.tc : Thread nD τ).loc main_arg5) (ix3 1 k n)) n := by
  rw [steps]
  refine (refY_row _ _ _ _ b r n).trans (congrArg₂ (· + ·) rfl (Finset.sum_congr rfl fun k _ => congrArg₂ (· * ·) ?_ rfl))
  unfold outR expo
  have hE : ∀ j, (refE (scores m c) (refM (scores m c)) (ix4 b ⟨k.val / 128, by omega⟩ r j) : EReal) = expo (scoreR (head (query (fun d => m ((c.tc : Thread nD τ).loc main_arg0) (ix3 b r d)) (fun d => m ((c.tc : Thread nD τ).loc main_arg1) (ix1 d))
      (fun d k => m ((c.tc : Thread nD τ).loc main_arg2) (ix3 1 d k))) (fun d => m ((c.tc : Thread nD τ).loc main_arg6) (ix1 d)) ⟨k.val / 128, by omega⟩) fun j k' => m ((c.tc : Thread nD τ).loc main_arg3) (ix4 1 b j ⟨k.val / 128 * 128 + k'.val, by omega⟩)) j := by
    intro j
    rw [refE_row, refM_row]
    unfold scores expo
    simp only [refS_row, refH_row, refQ_row]
  refine Finset.sum_congr rfl fun j _ => congrArg₂ (· * ·) (congrArg (fun k => m ((c.tc : Thread nD τ).loc main_arg4) (ix4 1 b j k)) (Fin.ext ?_)) ?_
  · show k.val = k.val / 128 * 128 + k.val % 128
    omega
  · exact congrArg₂ Ideal.div (hE j) (Finset.sum_congr rfl fun j _ => hE j)

/-- An array whose rows are normalised, as the reference writes it. -/
def normed (g : FVec Ideal S2048 .f32) (Y : FVec Ideal S4x2048x2048 .f32) : FVec Ideal S4x2048x2048 .bf16 :=
  truncf .bf16 (mulf (mulf Y (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf Y Y) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 g))) bitsLt_bf16_f32

/-- A normalised row at an index. -/
theorem normed_row (g : FVec Ideal S2048 .f32) (Y : FVec Ideal S4x2048x2048 .f32) (b : Fin 4) (r n : Fin 2048) :
    (normed g Y (ix3 b r n) : EReal) = nrm n2048 (fun d => Y (ix3 b r d)) (fun d => g (ix1 d)) n := by
  unfold normed nrm
  pointwise
  rfl

variable (m : (ℓ : Loc nD τ sig) → Buf (Elt Ideal) ℓ)

/-- The reference's second result is its first normalised. -/
theorem ref72 (c : Dev nD) : Cert.Reference6Ideal.Value.res_main_v73 m c = normed (m ((c.tc : Thread nD τ).loc main_arg7)) (Cert.Reference6Ideal.Value.res_main_v59 m c) := rfl

end Cert.MemAttn

end
-- ==== Proof.MemFinite.lean ====
/- What the precondition `finite_attention` says of the keys and of the query's gain: none of their elements is an infinity. -/
module

public import proofs.«01_k».proof.Defs
public import proofs.«01_k».proof.Proof.MemRow
public import Idealize.ShloMosaic.Lib.ReduceAll
public import Idealize.ShloMosaic.Lib.Pointwise

@[expose] public section

set_option maxRecDepth 16384

noncomputable section

namespace Cert.MemAttn

open Idealize.ShloMosaic Idealize.ShloMosaic.TcCoe Idealize.SL.Sem

/-- The precondition's shape relations. -/
instance facts : Cert.Pre_finite_attention.Facts where
  bitsLt_bf16_f32 := by decide
  bcast_S_S2x4x256x512 := by decide
  reducesTo_S2x4x256x512_S_d0_1_2_3 := by decide
  h_S_ := by decide
  bcast_S_S128 := by decide
  reducesTo_S128_S_d0 := by decide

/-- A magnitude below infinity is finite. -/
theorem finite_of (x : EReal) (h : Ideal.cmp .olt (max x (-x)) (Ideal.ofBits .f32 0x7F800000#32) = 1#1) : Real' x := by
  have e : Ideal.ofBits .f32 0x7F800000#32 = ⊤ := by unfold Ideal.ofBits Ideal.ieee; simp
  rw [e] at h
  have hx : max x (-x) < ⊤ := by
    by_contra hn
    unfold Ideal.cmp at h
    simp [hn] at h
  induction x with
  | bot => simp at hx
  | top => simp at hx
  | coe r => exact ⟨r, rfl⟩

instance : Subsingleton Cert.Pre_finite_attention.S_.Idx := ⟨fun a b => funext fun i => i.elim0⟩

/-- The array's elements are finite where all their magnitudes are below infinity. -/
theorem finite_all {s : Shape} {axes : List (Fin s.rank)} (x : FVec Ideal s .f32) (hb : Cert.Pre_finite_attention.S_.BroadcastsInDim s (![] : Fin 0 → Fin s.rank))
    (h : s.ReducesTo axes Cert.Pre_finite_attention.S_) (hu : 0 < Cert.Pre_finite_attention.S_.numel) (j : Cert.Pre_finite_attention.S_.Idx)
    (e : Host.reduce IntOp.andi (cmpf .olt (Host.absf x) (broadcastInDim s ![] hb (constant Cert.Pre_finite_attention.S_ .f32 0x7F800000#32))) (constantI Cert.Pre_finite_attention.S_ 1 1#1) h hu j = 1#1)
    (i : s.Idx) : Real' (x i) :=
  finite_of _ (Host.reduce_andi_all _ _ _ _ j e i)

/-- The precondition's two parts. -/
theorem finite_parts (x0 : FVec Ideal Cert.Pre_finite_attention.S4x2048x2048 .f32) (x1 : FVec Ideal Cert.Pre_finite_attention.S2048 .f32)
    (x2 : FVec Ideal Cert.Pre_finite_attention.S2x2048x512 .f32) (x3 x4 : FVec Ideal Cert.Pre_finite_attention.S2x4x256x512 .bf16)
    (x5 : FVec Ideal Cert.Pre_finite_attention.S2x512x2048 .f32) (x6 : FVec Ideal Cert.Pre_finite_attention.S128 .f32) (x7 : FVec Ideal Cert.Pre_finite_attention.S2048 .f32)
    (h : Cert.Pre_finite_attention.fn x0 x1 x2 x3 x4 x5 x6 x7 = fun _ => 1#1) : (∀ i, Real' (x3 i)) ∧ ∀ i, Real' (x6 i) := by
  obtain ⟨h3, h6⟩ := IntOp.andi_eq_one.1 (congrFun h (fun i => i.elim0))
  exact ⟨finite_all (extf .f32 x3 (by decide)) _ _ _ _ h3, finite_all x6 _ _ _ _ h6⟩

end Cert.MemAttn

end
-- ==== Proof.MemAttn.lean ====
/- The attention to the memory tokens with the norm after it: the kernel `Kernel6` and its reference end with the same
   results where the keys and the query's gain are finite. -/
module

public import proofs.«01_k».proof.Proof.MemKernel
public import proofs.«01_k».proof.Proof.MemRef
public import proofs.«01_k».proof.Proof.MemFinite

@[expose] public section

set_option maxRecDepth 16384

noncomputable section

namespace Cert.MemAttn

open Cert.Kernel6Ideal Cert.Kernel6Ideal.Gen Idealize.ShloMosaic Idealize.ShloMosaic.TcCoe Idealize.SL.Sem

variable (m : (ℓ : Loc nD τ sig) → Buf (Elt Ideal) ℓ)

/-- The windows' block indices at a grid point. -/
theorem idx : ∀ t : Fin cfg0.N, win0_0.index t = ![(grid0.coords t 0).val, (grid0.coords t 1).val, 0] ∧ win0_1.index t = ![0, 0]
    ∧ win0_2.index t = ![1, 0, 0] ∧ win0_3.index t = ![1, (grid0.coords t 0).val, 0, 0] ∧ win0_4.index t = ![1, (grid0.coords t 0).val, 0, 0]
    ∧ win0_5.index t = ![1, 0, 0] ∧ win0_6.index t = ![0, 0] ∧ win0_7.index t = ![0, 0]
    ∧ win0_8.index t = ![(grid0.coords t 0).val, (grid0.coords t 1).val, 0] ∧ win0_9.index t = ![(grid0.coords t 0).val, (grid0.coords t 1).val, 0] :=
  (by decide +kernel : ∀ t : Fin grid0.N, _)

/-- Equal inputs give equal rows. -/
theorem rowK_congr {x x' g g' : Fin 2048 → EReal} {W W' : Fin 2048 → Fin 512 → EReal} {qn qn' : Fin 128 → EReal} {K K' V V' : Fin 256 → Fin 512 → EReal}
    {O O' : Fin 512 → Fin 2048 → EReal} (hx : ∀ d, x d = x' d) (hg : ∀ d, g d = g' d) (hW : ∀ d c, W d c = W' d c) (hq : ∀ d, qn d = qn' d)
    (hK : ∀ j c, K j c = K' j c) (hV : ∀ j c, V j c = V' j c) (hO : ∀ c n, O c n = O' c n) : rowK x g W qn K V O = rowK x' g' W' qn' K' V' O' := by
  obtain rfl := funext hx
  obtain rfl := funext hg
  obtain rfl : W = W' := funext fun d => funext (hW d)
  obtain rfl := funext hq
  obtain rfl : K = K' := funext fun d => funext (hK d)
  obtain rfl : V = V' := funext fun d => funext (hV d)
  obtain rfl : O = O' := funext fun d => funext (hO d)
  rfl

/-- A row of the kernel's block is the reference's row. -/
theorem row (c : Dev nD) (t : Fin cfg0.N) (m' : (ℓ : Loc Cert.Reference6Ideal.nD Cert.Reference6Ideal.τ Cert.Reference6Ideal.sig) → Buf (Elt Ideal) ℓ)
    (a0 : m' ((c.tc : Thread Cert.Reference6Ideal.nD Cert.Reference6Ideal.τ).loc Cert.Reference6Ideal.main_arg0) = m ((c.tc : Thread nD τ).loc main_arg0))
    (a1 : m' ((c.tc : Thread Cert.Reference6Ideal.nD Cert.Reference6Ideal.τ).loc Cert.Reference6Ideal.main_arg1) = m ((c.tc : Thread nD τ).loc main_arg1))
    (a2 : m' ((c.tc : Thread Cert.Reference6Ideal.nD Cert.Reference6Ideal.τ).loc Cert.Reference6Ideal.main_arg2) = m ((c.tc : Thread nD τ).loc main_arg2))
    (a3 : m' ((c.tc : Thread Cert.Reference6Ideal.nD Cert.Reference6Ideal.τ).loc Cert.Reference6Ideal.main_arg3) = m ((c.tc : Thread nD τ).loc main_arg3))
    (a4 : m' ((c.tc : Thread Cert.Reference6Ideal.nD Cert.Reference6Ideal.τ).loc Cert.Reference6Ideal.main_arg4) = m ((c.tc : Thread nD τ).loc main_arg4))
    (a5 : m' ((c.tc : Thread Cert.Reference6Ideal.nD Cert.Reference6Ideal.τ).loc Cert.Reference6Ideal.main_arg5) = m ((c.tc : Thread nD τ).loc main_arg5))
    (a6 : m' ((c.tc : Thread Cert.Reference6Ideal.nD Cert.Reference6Ideal.τ).loc Cert.Reference6Ideal.main_arg6) = m ((c.tc : Thread nD τ).loc main_arg6))
    (h3 : ∀ i, Real' (m ((c.tc : Thread nD τ).loc main_arg3) i)) (h6 : ∀ i, Real' (m ((c.tc : Thread nD τ).loc main_arg6) i))
    (r : Fin 512) (b : Fin 4) (R : Fin 2048) (hb : b.val = (grid0.coords t 0).val) (hR : R.val = (grid0.coords t 1).val * 512 + r.val) :
    rowK (fun d => iblk m c 0 t (ix3 0 r d)) (fun d => iblk m c 1 t (ix2 0 d)) (fun d k => iblk m c 2 t (ix3 0 d k)) (fun d => iblk m c 6 t (ix2 0 d))
        (fun j k => iblk m c 3 t (ix4 0 0 j k)) (fun j k => iblk m c 4 t (ix4 0 0 j k)) (fun k n => iblk m c 5 t (ix3 0 k n))
      = fun n => Cert.Reference6Ideal.Value.res_main_v59 m' c (ix3 b R n) := by
  funext n
  refine .trans ?_ (ref58 m' c b R n).symm
  rw [a0, a1, a2, a3, a4, a5, a6]
  rw [← row_eq (fun k => h6 _) (fun j k => h3 _)]
  obtain ⟨e0, e1, e2, e3, e4, e5, e6, e7, e8, e9⟩ := idx t
  refine congrFun (rowK_congr (fun d => ?_) (fun d => ?_) (fun d k => ?_) (fun d => ?_) (fun j k => ?_) (fun j k => ?_) (fun k n => ?_)) n
  · blk_ext [iblk, V, e0, hb, hR]
  · blk_ext! [iblk, V, e1]
  · blk_ext [iblk, V, e2]
  · blk_ext! [iblk, V, e6]
  · blk_ext [iblk, V, e3, hb]
  · blk_ext [iblk, V, e4, hb]
  · blk_ext [iblk, V, e5]

/-- The kernel's results after its run are the reference's. -/
theorem values (c : Dev nD) (m' : (ℓ : Loc Cert.Reference6Ideal.nD Cert.Reference6Ideal.τ Cert.Reference6Ideal.sig) → Buf (Elt Ideal) ℓ)
    (a0 : m' ((c.tc : Thread Cert.Reference6Ideal.nD Cert.Reference6Ideal.τ).loc Cert.Reference6Ideal.main_arg0) = m ((c.tc : Thread nD τ).loc main_arg0))
    (a1 : m' ((c.tc : Thread Cert.Reference6Ideal.nD Cert.Reference6Ideal.τ).loc Cert.Reference6Ideal.main_arg1) = m ((c.tc : Thread nD τ).loc main_arg1))
    (a2 : m' ((c.tc : Thread Cert.Reference6Ideal.nD Cert.Reference6Ideal.τ).loc Cert.Reference6Ideal.main_arg2) = m ((c.tc : Thread nD τ).loc main_arg2))
    (a3 : m' ((c.tc : Thread Cert.Reference6Ideal.nD Cert.Reference6Ideal.τ).loc Cert.Reference6Ideal.main_arg3) = m ((c.tc : Thread nD τ).loc main_arg3))
    (a4 : m' ((c.tc : Thread Cert.Reference6Ideal.nD Cert.Reference6Ideal.τ).loc Cert.Reference6Ideal.main_arg4) = m ((c.tc : Thread nD τ).loc main_arg4))
    (a5 : m' ((c.tc : Thread Cert.Reference6Ideal.nD Cert.Reference6Ideal.τ).loc Cert.Reference6Ideal.main_arg5) = m ((c.tc : Thread nD τ).loc main_arg5))
    (a6 : m' ((c.tc : Thread Cert.Reference6Ideal.nD Cert.Reference6Ideal.τ).loc Cert.Reference6Ideal.main_arg6) = m ((c.tc : Thread nD τ).loc main_arg6))
    (a7 : m' ((c.tc : Thread Cert.Reference6Ideal.nD Cert.Reference6Ideal.τ).loc Cert.Reference6Ideal.main_arg7) = m ((c.tc : Thread nD τ).loc main_arg7))
    (h3 : ∀ i, Real' (m ((c.tc : Thread nD τ).loc main_arg3) i)) (h6 : ∀ i, Real' (m ((c.tc : Thread nD τ).loc main_arg6) i)) :
    (dats m 0 c).arrAt 8 cfg0.N = Cert.Reference6Ideal.Value.res_main_v59 m' c ∧ (dats m 0 c).arrAt 9 cfg0.N = Cert.Reference6Ideal.Value.res_main_v73 m' c := by
  refine ⟨(dats m 0 c).arrAt_eq_of_covers 8 _ (by decide +kernel) fun t hf y => ?_, (dats m 0 c).arrAt_eq_of_covers 9 _ (by decide +kernel) fun t hf y => ?_⟩
  · obtain ⟨e0, e1, e2, e3, e4, e5, e6, e7, e8, e9⟩ := idx t
    blk_simp
    rw [after0_8, block8]
    unfold rows
    have hr := (y 1).isLt
    change _ < 512 at hr
    have h0 := (y 0).isLt
    change _ < 1 at h0
    have c0 := (grid0.coords t 0).isLt
    change _ < 4 at c0
    have c1 := (grid0.coords t 1).isLt
    change _ < 4 at c1
    refine (congrFun (row m c t m' a0 a1 a2 a3 a4 a5 a6 h3 h6 (y 1) ⟨(grid0.coords t 0).val, c0⟩ ⟨(grid0.coords t 1).val * 512 + (y 1).val, by omega⟩ rfl rfl) (y 2)).trans ?_
    blk_ext [e8]
  · obtain ⟨e0, e1, e2, e3, e4, e5, e6, e7, e8, e9⟩ := idx t
    blk_simp
    rw [after0_9, block9, ref72]
    unfold nrows
    have hr := (y 1).isLt
    change _ < 512 at hr
    have h0 := (y 0).isLt
    change _ < 1 at h0
    have c0 := (grid0.coords t 0).isLt
    change _ < 4 at c0
    have c1 := (grid0.coords t 1).isLt
    change _ < 4 at c1
    rw [row m c t m' a0 a1 a2 a3 a4 a5 a6 h3 h6 (y 1) ⟨(grid0.coords t 0).val, c0⟩ ⟨(grid0.coords t 1).val * 512 + (y 1).val, by omega⟩ rfl rfl]
    have hg : (fun d => (iblk m c 7 t (ix2 0 d) : EReal)) = fun d => m ((c.tc : Thread nD τ).loc main_arg7) (ix1 d) := by
      funext d
      blk_ext! [iblk, V, e7]
    rw [hg, a7]
    refine (normed_row _ _ ⟨(grid0.coords t 0).val, c0⟩ ⟨(grid0.coords t 1).val * 512 + (y 1).val, by omega⟩ (y 2)).symm.trans ?_
    blk_ext [e9]

/-- The kernel and its reference end with the same results. -/
theorem algebraic : algebraic_Kernel6Ideal_Reference6Ideal_pre_finite_attention := by
  intro m g m' g' hpre hagree
  refine ⟨fun c => (dats m 0 c).arrAt 8 cfg0.N, fun c => (dats m 0 c).arrAt 9 cfg0.N, Cert.Kernel6Ideal.Value.run_blocks m g, ?_⟩
  refine (θ_run _ _ _).mono (fun r h c => ?_) (Cert.Reference6Ideal.Value.run m' g')
  obtain ⟨h8, h9, h0⟩ := h c
  obtain ⟨a0, a1, a2, a3, a4, a5, a6, a7⟩ := hagree c
  obtain ⟨h3, h6⟩ := finite_parts _ _ _ _ _ _ _ _ (hpre c)
  obtain ⟨v8, v9⟩ := values m c m' a0 a1 a2 a3 a4 a5 a6 a7 h3 h6
  exact ⟨h8.trans v8.symm, h9.trans v9.symm, h0⟩

end Cert.MemAttn

end
-- ==== Proof.QkvTaps.lean ====
/- The projection for the delta rule's queries, keys and values inside one grid point of `Kernel7`: the scratch buffers hold a chunk of 512 rows of the
   product after the eight rows before it, so that the loads one, two and three rows up are the convolution's taps. -/
module

public import proofs.«01_k».proof.Proof.Gen.Kernel7Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.QkvProj

open Cert.Kernel7Ideal Cert.Kernel7Ideal.Gen Idealize.ShloMosaic Idealize.ShloMosaic.TcCoe Idealize.SL.Sem

/-- Row `s`, column `n` of the product of the activations' block and a weight block, whose rows are the output's columns. -/
def prod (X : Vec Ideal S1x2048x2048 .bf16) (W : Vec Ideal S1x512x2048 .f32) (s : ℕ) (n : Fin 512) : EReal :=
  if h : s < 2048 then ∑ k : Fin 2048, (X (ix3 0 ⟨s, h⟩ k) : EReal) * (W (ix3 0 n k) : EReal) else 0

/-- The product's row `k` before row `s`; zero before the sequence begins. -/
def tap (X : Vec Ideal S1x2048x2048 .bf16) (W : Vec Ideal S1x512x2048 .f32) (k s : ℕ) (n : Fin 512) : EReal :=
  if s < k then 0 else prod X W (s - k) n

/-- Chunk `c` of the rows of a tap: 512 rows. -/
def tapv (X : Vec Ideal S1x2048x2048 .bf16) (W : Vec Ideal S1x512x2048 .f32) (k c : ℕ) : Vec Ideal S512x512 .f32 :=
  fun j => tap X W k (512 * c + (j 0).val) (j 1)

/-- The eight rows before chunk `c`. -/
def tailv (X : Vec Ideal S1x2048x2048 .bf16) (W : Vec Ideal S1x512x2048 .f32) (c : ℕ) : Vec Ideal S8x512 .f32 :=
  fun j => tap X W 8 (512 * c + (j 0).val) (j 1)

/-- A tap is an earlier row of the product when there is one. -/
theorem tap_shift (X : Vec Ideal S1x2048x2048 .bf16) (W : Vec Ideal S1x512x2048 .f32) (k k' s s' : ℕ) (n n' : Fin 512) (hn : n = n') (h : s + k' = s' + k) :
    tap X W k s n = tap X W k' s' n' := by
  subst hn
  unfold tap
  by_cases hs : s < k
  · rw [if_pos hs, if_pos (by omega)]
  · rw [if_neg hs, if_neg (by omega), show s - k = s' - k' by omega]

section
variable {κ : Kind} {sp : Space} {sig : RefSig} (v : View sig κ sp S520x512 .f32) (X : Vec Ideal S1x2048x2048 .bf16) (W : Vec Ideal S1x512x2048 .f32)
  (L : List (View.Piece (Elt Ideal) S520x512 .f32)) (c : ℕ)

/-- What the scratch holds after the two stores of a chunk: from row 8 the chunk, before it the eight rows before. -/
theorem canon_row :
    View.canon (⟨Rect.unit ![8, 0] ![512, 512] inb_S520x512_S512x512_8_0, tapv X W 0 c⟩ :: ⟨Rect.unit ![0, 0] ![8, 512] inb_S520x512_S8x512_0_0, tailv X W c⟩ :: L)
      = fun i => tap X W 8 (512 * c + (i 0).val) (i 1) := by
  funext i
  have hi := (i 0).isLt
  change _ < 520 at hi
  refine View.canon_append_of_piecesOf (fun i => tap X W 8 (512 * c + (i 0).val) (i 1)) L [_, _] ⟨fun x => ?_, fun x => ?_, trivial⟩ i ?_
  · show tap X W 0 (512 * c + (x 0).val) (x 1) = tap X W 8 (512 * c + ((Rect.unit (s := S520x512) ![8, 0] ![512, 512] inb_S520x512_S512x512_8_0).emb x 0).val) ((Rect.unit (s := S520x512) ![8, 0] ![512, 512] inb_S520x512_S512x512_8_0).emb x 1)
    refine tap_shift X W _ _ _ _ _ _ (Fin.ext ?_) ?_ <;> simp [Rect.emb, Rect.unit] <;> omega
  · show tap X W 8 (512 * c + (x 0).val) (x 1) = tap X W 8 (512 * c + ((Rect.unit (s := S520x512) ![0, 0] ![8, 512] inb_S520x512_S8x512_0_0).emb x 0).val) ((Rect.unit (s := S520x512) ![0, 0] ![8, 512] inb_S520x512_S8x512_0_0).emb x 1)
    refine tap_shift X W _ _ _ _ _ _ (Fin.ext ?_) ?_ <;> simp [Rect.emb, Rect.unit]
  · by_cases h : 8 ≤ (i 0).val
    · exact ⟨_, List.mem_cons_self .., by simp [Rect.mem_set_unit, Fin.forall_fin_two]; omega⟩
    · exact ⟨_, List.mem_cons_of_mem _ (List.mem_cons_self ..), by simp [Rect.mem_set_unit, Fin.forall_fin_two]; omega⟩

/-- The load of 512 rows from row 7 of the scratch. -/
theorem read_1 : v.readCov (⟨Rect.unit ![8, 0] ![512, 512] inb_S520x512_S512x512_8_0, tapv X W 0 c⟩ :: ⟨Rect.unit ![0, 0] ![8, 512] inb_S520x512_S8x512_0_0, tailv X W c⟩ :: L)
      (Rect.unit ![7, 0] ![512, 512] inb_S520x512_S512x512_7_0).toLoadRect = tapv X W 1 c := by
  rw [View.readCov_eq_canon', canon_row]
  funext j
  refine tap_shift X W _ _ _ _ _ _ (Fin.ext ?_) ?_ <;> simp [Rect.emb, Rect.unit, Rect.toLoadRect, LoadRect.idx] <;> omega

/-- The load of 512 rows from row 6 of the scratch. -/
theorem read_2 : v.readCov (⟨Rect.unit ![8, 0] ![512, 512] inb_S520x512_S512x512_8_0, tapv X W 0 c⟩ :: ⟨Rect.unit ![0, 0] ![8, 512] inb_S520x512_S8x512_0_0, tailv X W c⟩ :: L)
      (Rect.unit ![6, 0] ![512, 512] inb_S520x512_S512x512_6_0).toLoadRect = tapv X W 2 c := by
  rw [View.readCov_eq_canon', canon_row]
  funext j
  refine tap_shift X W _ _ _ _ _ _ (Fin.ext ?_) ?_ <;> simp [Rect.emb, Rect.unit, Rect.toLoadRect, LoadRect.idx] <;> omega

/-- The load of 512 rows from row 5 of the scratch. -/
theorem read_3 : v.readCov (⟨Rect.unit ![8, 0] ![512, 512] inb_S520x512_S512x512_8_0, tapv X W 0 c⟩ :: ⟨Rect.unit ![0, 0] ![8, 512] inb_S520x512_S8x512_0_0, tailv X W c⟩ :: L)
      (Rect.unit ![5, 0] ![512, 512] inb_S520x512_S512x512_5_0).toLoadRect = tapv X W 3 c := by
  rw [View.readCov_eq_canon', canon_row]
  funext j
  refine tap_shift X W _ _ _ _ _ _ (Fin.ext ?_) ?_ <;> simp [Rect.emb, Rect.unit, Rect.toLoadRect, LoadRect.idx] <;> omega

/-- The load of 8 rows from row 512 of the scratch. -/
theorem read_t : v.readCov (⟨Rect.unit ![8, 0] ![512, 512] inb_S520x512_S512x512_8_0, tapv X W 0 c⟩ :: ⟨Rect.unit ![0, 0] ![8, 512] inb_S520x512_S8x512_0_0, tailv X W c⟩ :: L)
      (Rect.unit ![512, 0] ![8, 512] inb_S520x512_S8x512_512_0).toLoadRect = tailv X W (c + 1) := by
  rw [View.readCov_eq_canon', canon_row]
  funext j
  refine tap_shift X W _ _ _ _ _ _ (Fin.ext ?_) ?_ <;> simp [Rect.emb, Rect.unit, Rect.toLoadRect, LoadRect.idx] <;> omega
end

/-- The eight rows before the first chunk are zero. -/
theorem pay5 (X : Vec Ideal S1x2048x2048 .bf16) (W : Vec Ideal S1x512x2048 .f32) : k0_pay5 (F := Ideal) = tailv X W 0 := by
  funext j
  have hj := (j 0).isLt
  change _ < 8 at hj
  unfold k0_pay5 tailv tap
  rw [if_pos (by omega)]
  pointwise
  try simp [Ideal.ofBits, Ideal.ieee]

/-- A copy of eight rows. -/
theorem pay1 (T : Vec Ideal S8x512 .f32) : k0_pay1 (F := Ideal) T = T := by
  unfold k0_pay1
  funext y
  pointwise

/-- A copy of eight rows. -/
theorem pay8 (T : Vec Ideal S8x512 .f32) : k0_pay8 (F := Ideal) T = T := by
  unfold k0_pay8
  funext y
  pointwise

/-- A copy of eight rows. -/
theorem pay12 (T : Vec Ideal S8x512 .f32) : k0_pay12 (F := Ideal) T = T := by
  unfold k0_pay12
  funext y
  pointwise

/-- A copy of eight rows. -/
theorem pay16 (T : Vec Ideal S8x512 .f32) : k0_pay16 (F := Ideal) T = T := by
  unfold k0_pay16
  funext y
  pointwise

/-- A product of 512 rows of the activations' block. -/
theorem mm (X : Vec Ideal S1x2048x2048 .bf16) (Y : Vec Ideal S1x512x2048 .bf16) (W : Vec Ideal S1x512x2048 .f32) (c : ℕ) (hc : c < 4)
    (hY : ∀ (r : Fin 512) (k : Fin 2048), Y (ix3 0 r k) = X (ix3 0 ⟨512 * c + r.val, by have := r.isLt; omega⟩ k)) :
    shapeCast S512x512 (matmul (F := Ideal) (φ₁ := .bf16) (φ₂ := .bf16) dot_S512x2048_S512x2048_S512x512_1_1_0_0_n_n none
      (shapeCast S512x2048 Y shapeCasts_S1x512x2048_S512x2048)
      (truncf .bf16 (shapeCast S512x2048 W shapeCasts_S1x512x2048_S512x2048 : FVec Ideal S512x2048 .f32) bitsLt_bf16_f32)
      (constant (F := Ideal) S512x512 .f32 0x00000000#32)) shapeCasts_S512x512_S512x512 = tapv X W 0 c := by
  funext j
  have hj := (j 0).isLt
  change _ < 512 at hj
  pointwise
  unfold tapv tap prod
  rw [if_neg (by omega), dif_pos (by omega)]
  refine Finset.sum_congr rfl fun x _ => congrArg (· * _) ?_
  exact hY _ _

/-- Chunk 0 of the product. -/
theorem pay6 (X : Vec Ideal S1x2048x2048 .bf16) (W : Vec Ideal S1x512x2048 .f32) :
    k0_pay6 (F := Ideal) W (View.ld X (Rect.unit ![0, 0, 0] ![1, 512, 2048] inb_S1x2048x2048_S1x512x2048_0_0_0)) = tapv X W 0 0 :=
  mm X _ W 0 (by omega) fun r k => by
    refine congrArg X ?_
    blk_ext <;> simp [Rect.idx_unit_val]

/-- Chunk 1 of the product. -/
theorem pay10 (X : Vec Ideal S1x2048x2048 .bf16) (W : Vec Ideal S1x512x2048 .f32) :
    k0_pay10 (F := Ideal) (k0_pay3 W) (View.ld X (Rect.unit ![0, 512, 0] ![1, 512, 2048] inb_S1x2048x2048_S1x512x2048_0_512_0)) = tapv X W 0 1 :=
  mm X _ W 1 (by omega) fun r k => by
    refine congrArg X ?_
    blk_ext <;> simp [Rect.idx_unit_val]

/-- Chunk 2 of the product. -/
theorem pay14 (X : Vec Ideal S1x2048x2048 .bf16) (W : Vec Ideal S1x512x2048 .f32) :
    k0_pay14 (F := Ideal) (k0_pay3 W) (View.ld X (Rect.unit ![0, 1024, 0] ![1, 512, 2048] inb_S1x2048x2048_S1x512x2048_0_1024_0)) = tapv X W 0 2 :=
  mm X _ W 2 (by omega) fun r k => by
    refine congrArg X ?_
    blk_ext <;> simp [Rect.idx_unit_val]

/-- Chunk 3 of the product. -/
theorem pay18 (X : Vec Ideal S1x2048x2048 .bf16) (W : Vec Ideal S1x512x2048 .f32) :
    k0_pay18 (F := Ideal) (k0_pay3 W) (View.ld X (Rect.unit ![0, 1536, 0] ![1, 512, 2048] inb_S1x2048x2048_S1x512x2048_0_1536_0)) = tapv X W 0 3 :=
  mm X _ W 3 (by omega) fun r k => by
    refine congrArg X ?_
    blk_ext <;> simp [Rect.idx_unit_val]

end Cert.QkvProj

end
-- ==== Proof.QkvProj.lean ====
/- The projection for the delta rule's queries, keys and values with its short convolution: what the kernel `Kernel7` leaves in
   its result is the reference's term. -/
module

public import proofs.«01_k».proof.Defs
public import proofs.«01_k».proof.Proof.QkvTaps
public import proofs.«01_k».proof.Proof.Gen.Reference7Ideal.Run
public import Idealize.ShloMosaic.Lib.KernelVsHost

@[expose] public section

set_option maxRecDepth 16384

noncomputable section

namespace Cert.QkvProj

open Cert.Kernel7Ideal Cert.Kernel7Ideal.Gen Idealize.ShloMosaic Idealize.ShloMosaic.TcCoe Idealize.SL.Sem

/-- The convolution at a row and a column: the four taps with their weights. -/
def conv (X : Vec Ideal S1x2048x2048 .bf16) (W : Vec Ideal S1x512x2048 .f32) (cw : Vec Ideal S4x512 .f32) (s : ℕ) (n : Fin 512) : EReal :=
  tap X W 0 s n * cw (ix2 3 n) + tap X W 1 s n * cw (ix2 2 n) + tap X W 2 s n * cw (ix2 1 n) + tap X W 3 s n * cw (ix2 0 n)

/-- The activation of a number: the number times its logistic function. -/
def act (g : EReal) : EReal := g * Ideal.div 1 (1 + Ideal.exp (0 - g))

/-- A grid point's block of the result. -/
def blockV (X : Vec Ideal S1x2048x2048 .bf16) (W : Vec Ideal S1x512x2048 .f32) (cw : Vec Ideal S4x512 .f32) : Vec Ideal S1x2048x512 .f32 :=
  fun y => act (conv X W cw (y 1).val (y 2))

/-- A chunk's payload, written with the chunk's taps, is the activation at the chunk's rows. -/
theorem piece (c : ℕ) (X : Vec Ideal S1x2048x2048 .bf16) (W : Vec Ideal S1x512x2048 .f32) (cw : Vec Ideal S4x512 .f32)
    (x : S1x512x512.Idx) (z : S1x2048x512.Idx) (h1 : (z 1).val = 512 * c + (x 1).val) (h2 : (z 2).val = (x 2).val) {a : EReal}
    (h : a = act (tapv X W 0 c (ix2 (x 1) (x 2)) * cw (ix2 3 (x 2)) + tapv X W 1 c (ix2 (x 1) (x 2)) * cw (ix2 2 (x 2))
      + tapv X W 2 c (ix2 (x 1) (x 2)) * cw (ix2 1 (x 2)) + tapv X W 3 c (ix2 (x 1) (x 2)) * cw (ix2 0 (x 2)))) :
    a = act (conv X W cw (z 1).val (z 2)) := by
  have e : z 2 = x 2 := Fin.ext h2
  rw [h, h1, e]
  rfl

variable (m : (ℓ : Loc nD τ sig) → Buf (Elt Ideal) ℓ)

/-- What grid point `t` leaves in its block of the result. -/
theorem block (c : Dev nD) (t : Fin cfg0.N) (y : S1x2048x512.Idx) :
    outsAt0 m c t y = blockV (iblk m c 0 t) (X0_1 m c t) (iblk m c 2 t) y := by
  dsimp only [outsAt0]
  frame_open
  simp (disch := decide) only [↓ View.readCov_skip, ↓ View.readCov_cons_toLoadRect, ↓ View.readCov_fill]
  simp (disch := decide) only [View.readAt_eq_ld, Memref.IsWhole.read_unread, View.ld_unit_lit, pay5 (iblk m c 0 t) (X0_1 m c t),
    pay1, pay8, pay12, pay16, pay6, pay10, pay14, pay18, read_1, read_2, read_3, read_t]
  rw [View.read_writes_junk_eq_canon]
  have hy := (y 1).isLt
  change _ < 2048 at hy
  refine View.canon_append_of_piecesOf (blockV (iblk m c 0 t) (X0_1 m c t) (iblk m c 2 t)) [] [_, _, _, _]
    ⟨fun x => ?_, fun x => ?_, fun x => ?_, fun x => ?_, trivial⟩ y ?_
  · exact piece 3 _ _ _ x _ (by simp [Rect.emb, Rect.unit]) (by simp [Rect.emb, Rect.unit])
      (by unfold k0_pay2 k0_pay19 k0_pay4; pointwise; rfl)
  · exact piece 2 _ _ _ x _ (by simp [Rect.emb, Rect.unit]) (by simp [Rect.emb, Rect.unit])
      (by unfold k0_pay17 k0_pay15 k0_pay4; pointwise; rfl)
  · exact piece 1 _ _ _ x _ (by simp [Rect.emb, Rect.unit]) (by simp [Rect.emb, Rect.unit])
      (by unfold k0_pay13 k0_pay11 k0_pay4; pointwise; rfl)
  · exact piece 0 _ _ _ x _ (by simp [Rect.emb, Rect.unit]) (by simp [Rect.emb, Rect.unit])
      (by unfold k0_pay9 k0_pay7 k0_pay4; pointwise; rfl)
  · by_cases h3 : 1536 ≤ (y 1).val
    · exact ⟨_, List.mem_cons_self .., by simp [Rect.mem_set_unit, Fin.forall_fin_succ]; omega⟩
    by_cases h2 : 1024 ≤ (y 1).val
    · exact ⟨_, List.mem_cons_of_mem _ (List.mem_cons_self ..), by simp [Rect.mem_set_unit, Fin.forall_fin_succ]; omega⟩
    by_cases h1 : 512 ≤ (y 1).val
    · exact ⟨_, List.mem_cons_of_mem _ (List.mem_cons_of_mem _ (List.mem_cons_self ..)), by simp [Rect.mem_set_unit, Fin.forall_fin_succ]; omega⟩
    · exact ⟨_, List.mem_cons_of_mem _ (List.mem_cons_of_mem _ (List.mem_cons_of_mem _ (List.mem_cons_self ..))), by simp [Rect.mem_set_unit, Fin.forall_fin_succ]; omega⟩

/-- The windows' block indices at a grid point. -/
theorem idx : ∀ t : Fin cfg0.N, win0_0.index t = ![(grid0.coords t 0).val, 0, 0] ∧ win0_1.index t = ![0, (grid0.coords t 1).val, 0]
    ∧ win0_2.index t = ![0, (grid0.coords t 1).val] ∧ win0_3.index t = ![(grid0.coords t 0).val, 0, (grid0.coords t 1).val] :=
  (by decide +kernel : ∀ t : Fin grid0.N, _)

/-- A weight block's entry is the weights' entry at the output's column. -/
theorem weight (c : Dev nD) (t : Fin cfg0.N) (n : Fin 512) (k : Fin 2048) (q : Fin 6688) (hq : q.val = (grid0.coords t 1).val * 512 + n.val) :
    X0_1 m c t (ix3 0 n k) = m ((c.tc : Thread nD τ).loc main_arg1) (ix3 0 k q) := by
  obtain ⟨e0, e1, e2, e3⟩ := idx t
  unfold X0_1 Pipeline.Window.fill
  rw [dif_pos (moved0_1 t _)]
  unfold iblk
  entry_read
  blk_simp
  pointwise
  blk_ext [e1, hq]

/-- A block of the convolution's weights is the weights at the output's column. -/
theorem taps (c : Dev nD) (t : Fin cfg0.N) (a : Fin 4) (n : Fin 512) (q : Fin 3072) (hq : q.val = (grid0.coords t 1).val * 512 + n.val) :
    iblk m c 2 t (ix2 a n) = m ((c.tc : Thread nD τ).loc main_arg2) (ix3 0 a q) := by
  obtain ⟨e0, e1, e2, e3⟩ := idx t
  unfold iblk
  entry_read
  blk_simp
  pointwise
  blk_ext [e2, hq]

/-- A tap as a choice. -/
theorem tap_eq (X : Vec Ideal S1x2048x2048 .bf16) (W : Vec Ideal S1x512x2048 .f32) (k s : ℕ) (n : Fin 512) (hs : s < 2048) (p : Prop) [Decidable p] (hp : p ↔ k ≤ s)
    (f : p → EReal) (z : EReal) (hz : z = 0) (hf : ∀ h : p, ∑ x : Fin 2048, (X (ix3 0 ⟨s - k, by omega⟩ x) : EReal) * (W (ix3 0 n x) : EReal) = f h) :
    tap X W k s n = if h : p then f h else z := by
  unfold tap
  by_cases h : p
  · rw [dif_pos h, if_neg (by have := hp.mp h; omega), ← hf h]
    unfold prod
    rw [dif_pos]
  · rw [dif_neg h, hz, if_pos]
    by_contra h'
    exact h (hp.mpr (by omega))

/-- A sum of four terms in the other order. -/
theorem reord {a b c d a' b' c' d' : EReal} (h1 : a = d') (h2 : b = c') (h3 : c = b') (h4 : d = a') : a + b + c + d = a' + b' + c' + d' := by
  subst h1 h2 h3 h4
  rw [add_comm (a + b + c) d, add_comm (a + b) c, add_comm a b, ← add_assoc, ← add_assoc]

/-- The activation of equal numbers, the negation written as a difference from zero. -/
theorem act_eq {g g' : EReal} (hg : g = g') : act g = g' * Ideal.div 1 (1 + Ideal.exp (-g')) := by
  subst hg
  unfold act
  rw [sub_eq_add_neg, zero_add]

/-- The padding's zero. -/
theorem zero_word : (FloatOps.sitofp FTy.f32 0#32 : Ideal .f32) = (0 : EReal) := sitofp_zero (φ := .f32)

end Cert.QkvProj

end
-- ==== Proof.QkvRef.lean ====
/- The reference `Reference7` of the projection for the delta rule's queries, keys and values, in its steps. -/
module

public import proofs.«01_k».proof.Proof.QkvProj

@[expose] public section

set_option maxRecDepth 16384

noncomputable section

namespace Cert.QkvRef

open Cert.Reference7Ideal Cert.Reference7Ideal.Gen Idealize.ShloMosaic Idealize.ShloMosaic.TcCoe Idealize.SL.Sem

/-- The projection after three rows of zeros. -/
def refP (A : FVec Ideal S4x2048x2048 .bf16) (W : FVec Ideal S1x2048x6688 .f32) : FVec Ideal S4x2051x3072 .f32 :=
  pad S4x2051x3072 ![0, 3, 0] ![0, 0, 0] ![0, 0, 0] (extractStridedSlice S4x2048x3072 ![0, 0, 0] (Host.dotGeneral dot_S4x2048x2048_S2048x6688_S4x2048x6688_2_0_01_1_n_n none (extf .f32 A bitsLt_bf16_f32) (shapeCast _ W shapeCasts_S1x2048x6688_S2048x6688)) slices_S4x2048x6688_S4x2048x3072_0_0_0) (sitofp .f32 (constantI S_ 32 0#32)) pads_S4x2048x3072_S4x2051x3072_000_300_000 h_S_

/-- The convolution. -/
def refC (P : FVec Ideal S4x2051x3072 .f32) (cw : FVec Ideal S1x4x3072 .f32) : FVec Ideal S4x2048x3072 .f32 :=
  addf (addf (addf (mulf (extractStridedSlice S4x2048x3072 ![0, 0, 0] P slices_S4x2051x3072_S4x2048x3072_0_0_0) (broadcastInDim S4x2048x3072 ![0, 1, 2] bcast_S1x1x3072_S4x2048x3072_0_1_2 (broadcastInDim S1x1x3072 ![2] bcast_S3072_S1x1x3072_2 (shapeCast _ (extractStridedSlice S1x3072 ![0, 0] (shapeCast _ cw shapeCasts_S1x4x3072_S4x3072) slices_S4x3072_S1x3072_0_0) shapeCasts_S1x3072_S3072)))) (mulf (extractStridedSlice S4x2048x3072 ![0, 1, 0] P slices_S4x2051x3072_S4x2048x3072_0_1_0) (broadcastInDim S4x2048x3072 ![0, 1, 2] bcast_S1x1x3072_S4x2048x3072_0_1_2 (broadcastInDim S1x1x3072 ![2] bcast_S3072_S1x1x3072_2 (shapeCast _ (extractStridedSlice S1x3072 ![1, 0] (shapeCast _ cw shapeCasts_S1x4x3072_S4x3072) slices_S4x3072_S1x3072_1_0) shapeCasts_S1x3072_S3072))))) (mulf (extractStridedSlice S4x2048x3072 ![0, 2, 0] P slices_S4x2051x3072_S4x2048x3072_0_2_0) (broadcastInDim S4x2048x3072 ![0, 1, 2] bcast_S1x1x3072_S4x2048x3072_0_1_2 (broadcastInDim S1x1x3072 ![2] bcast_S3072_S1x1x3072_2 (shapeCast _ (extractStridedSlice S1x3072 ![2, 0] (shapeCast _ cw shapeCasts_S1x4x3072_S4x3072) slices_S4x3072_S1x3072_2_0) shapeCasts_S1x3072_S3072))))) (mulf (extractStridedSlice S4x2048x3072 ![0, 3, 0] P slices_S4x2051x3072_S4x2048x3072_0_3_0) (broadcastInDim S4x2048x3072 ![0, 1, 2] bcast_S1x1x3072_S4x2048x3072_0_1_2 (broadcastInDim S1x1x3072 ![2] bcast_S3072_S1x1x3072_2 (shapeCast _ (extractStridedSlice S1x3072 ![3, 0] (shapeCast _ cw shapeCasts_S1x4x3072_S4x3072) slices_S4x3072_S1x3072_3_0) shapeCasts_S1x3072_S3072))))

/-- The activation. -/
def refA (C : FVec Ideal S4x2048x3072 .f32) : FVec Ideal S4x2048x3072 .f32 :=
  mulf C (Host.divf (broadcastInDim S4x2048x3072 ![] bcast_S_S4x2048x3072 (constant S_ .f32 0x3F800000#32)) (addf (broadcastInDim S4x2048x3072 ![] bcast_S_S4x2048x3072 (constant S_ .f32 0x3F800000#32)) (Host.exp (Host.negf C))))

theorem steps (m : (ℓ : Loc nD τ sig) → Buf (Elt Ideal) ℓ) (c : Dev nD) : Cert.Reference7Ideal.Value.res_main_v33 m c
    = refA (refC (refP (m ((c.tc : Thread nD τ).loc main_arg0)) (m ((c.tc : Thread nD τ).loc main_arg1))) (m ((c.tc : Thread nD τ).loc main_arg2))) := rfl

theorem refA_at (C : FVec Ideal S4x2048x3072 .f32) (i : S4x2048x3072.Idx) : (refA C i : EReal) = C i * Ideal.div 1 (1 + Ideal.exp (-C i)) := by
  unfold refA
  pointwise

theorem refC_at (P : FVec Ideal S4x2051x3072 .f32) (cw : FVec Ideal S1x4x3072 .f32) (b : Fin 4) (s : Fin 2048) (n : Fin 3072) : (refC P cw (ix3 b s n) : EReal)
    = P (ix3 b ⟨s.val, by omega⟩ n) * cw (ix3 0 0 n) + P (ix3 b ⟨1 + s.val, by omega⟩ n) * cw (ix3 0 1 n) + P (ix3 b ⟨2 + s.val, by omega⟩ n) * cw (ix3 0 2 n)
      + P (ix3 b ⟨3 + s.val, by omega⟩ n) * cw (ix3 0 3 n) := by
  unfold refC
  pointwise

theorem refP_at (A : FVec Ideal S4x2048x2048 .bf16) (W : FVec Ideal S1x2048x6688 .f32) (b : Fin 4) (s : Fin 2051) (n : Fin 3072) : (refP A W (ix3 b s n) : EReal)
    = if h : 3 ≤ s.val then ∑ k : Fin 2048, (A (ix3 b ⟨s.val - 3, by omega⟩ k) : EReal) * (W (ix3 0 k ⟨n.val, by omega⟩) : EReal) else 0 := by
  unfold refP
  pointwise
  by_cases h : 3 ≤ s.val
  · rw [dif_pos h, dif_pos ⟨h, by omega⟩]
  · rw [dif_neg h, dif_neg fun h' => h h'.1]
    exact Cert.QkvProj.zero_word

/-- The convolution at an index, its taps as choices. -/
def conv (A : FVec Ideal S4x2048x2048 .bf16) (W : FVec Ideal S1x2048x6688 .f32) (cw : FVec Ideal S1x4x3072 .f32) (b : Fin 4) (s : Fin 2048) (n : Fin 3072) : EReal :=
  (if h : 3 ≤ s.val then ∑ k : Fin 2048, (A (ix3 b ⟨s.val - 3, by omega⟩ k) : EReal) * (W (ix3 0 k ⟨n.val, by omega⟩) : EReal) else 0) * cw (ix3 0 0 n)
  + (if h : 3 ≤ 1 + s.val then ∑ k : Fin 2048, (A (ix3 b ⟨1 + s.val - 3, by omega⟩ k) : EReal) * (W (ix3 0 k ⟨n.val, by omega⟩) : EReal) else 0) * cw (ix3 0 1 n)
  + (if h : 3 ≤ 2 + s.val then ∑ k : Fin 2048, (A (ix3 b ⟨2 + s.val - 3, by omega⟩ k) : EReal) * (W (ix3 0 k ⟨n.val, by omega⟩) : EReal) else 0) * cw (ix3 0 2 n)
  + (if h : 3 ≤ 3 + s.val then ∑ k : Fin 2048, (A (ix3 b ⟨3 + s.val - 3, by omega⟩ k) : EReal) * (W (ix3 0 k ⟨n.val, by omega⟩) : EReal) else 0) * cw (ix3 0 3 n)

/-- The convolution of the projection at an index. -/
theorem conv_at (A : FVec Ideal S4x2048x2048 .bf16) (W : FVec Ideal S1x2048x6688 .f32) (cw : FVec Ideal S1x4x3072 .f32) (b : Fin 4) (s : Fin 2048) (n : Fin 3072) :
    (refC (refP A W) cw (ix3 b s n) : EReal) = conv A W cw b s n := by
  unfold conv
  exact (refC_at _ _ b s n).trans (congrArg₂ (· + ·) (congrArg₂ (· + ·) (congrArg₂ (· + ·)
    (congrArg (· * _) (refP_at A W b ⟨s.val, by omega⟩ n)) (congrArg (· * _) (refP_at A W b ⟨1 + s.val, by omega⟩ n)))
    (congrArg (· * _) (refP_at A W b ⟨2 + s.val, by omega⟩ n))) (congrArg (· * _) (refP_at A W b ⟨3 + s.val, by omega⟩ n)))

/-- The reference's result at an index. -/
theorem ref (m : (ℓ : Loc nD τ sig) → Buf (Elt Ideal) ℓ) (c : Dev nD) (i : S4x2048x3072.Idx) :
    (Cert.Reference7Ideal.Value.res_main_v33 m c i : EReal)
      = conv (m ((c.tc : Thread nD τ).loc main_arg0)) (m ((c.tc : Thread nD τ).loc main_arg1)) (m ((c.tc : Thread nD τ).loc main_arg2)) (i 0) (i 1) (i 2)
        * Ideal.div 1 (1 + Ideal.exp (-conv (m ((c.tc : Thread nD τ).loc main_arg0)) (m ((c.tc : Thread nD τ).loc main_arg1)) (m ((c.tc : Thread nD τ).loc main_arg2)) (i 0) (i 1) (i 2))) := by
  have hC : (refC (refP (m ((c.tc : Thread nD τ).loc main_arg0)) (m ((c.tc : Thread nD τ).loc main_arg1))) (m ((c.tc : Thread nD τ).loc main_arg2)) i : EReal)
      = conv (m ((c.tc : Thread nD τ).loc main_arg0)) (m ((c.tc : Thread nD τ).loc main_arg1)) (m ((c.tc : Thread nD τ).loc main_arg2)) (i 0) (i 1) (i 2) := by
    have e : i = ix3 (i 0) (i 1) (i 2) := funext fun a => by
      match a with
      | ⟨0, _⟩ => rfl
      | ⟨1, _⟩ => rfl
      | ⟨2, _⟩ => rfl
    exact (congrArg _ e).trans (conv_at _ _ _ (i 0) (i 1) (i 2))
  rw [steps, refA_at, hC]

end Cert.QkvRef

end
-- ==== Proof.QkvValue.lean ====
/- The projection for the delta rule's queries, keys and values: the kernel `Kernel7` and its reference end with the same result. -/
module

public import proofs.«01_k».proof.Proof.QkvRef

@[expose] public section

set_option maxRecDepth 16384

noncomputable section

namespace Cert.QkvProj

open Cert.Kernel7Ideal Cert.Kernel7Ideal.Gen Idealize.ShloMosaic Idealize.ShloMosaic.TcCoe Idealize.SL.Sem

variable (m : (ℓ : Loc nD τ sig) → Buf (Elt Ideal) ℓ)

set_option maxHeartbeats 4000000 in
/-- The kernel's result after its run is the reference's. -/
theorem value (c : Dev nD) (m' : (ℓ : Loc Cert.Reference7Ideal.nD Cert.Reference7Ideal.τ Cert.Reference7Ideal.sig) → Buf (Elt Ideal) ℓ)
    (a0 : m' ((c.tc : Thread Cert.Reference7Ideal.nD Cert.Reference7Ideal.τ).loc Cert.Reference7Ideal.main_arg0) = m ((c.tc : Thread nD τ).loc main_arg0))
    (a1 : m' ((c.tc : Thread Cert.Reference7Ideal.nD Cert.Reference7Ideal.τ).loc Cert.Reference7Ideal.main_arg1) = m ((c.tc : Thread nD τ).loc main_arg1))
    (a2 : m' ((c.tc : Thread Cert.Reference7Ideal.nD Cert.Reference7Ideal.τ).loc Cert.Reference7Ideal.main_arg2) = m ((c.tc : Thread nD τ).loc main_arg2)) :
    (dats m 0 c).arrAt 3 cfg0.N = Cert.Reference7Ideal.Value.res_main_v33 m' c := by
  refine (dats m 0 c).arrAt_eq_of_covers 3 _ (by decide +kernel) fun t hf y => ?_
  have hy := (y 1).isLt
  change _ < 2048 at hy
  have hy2 := (y 2).isLt
  change _ < 512 at hy2
  obtain ⟨e0, e1, e2, e3⟩ := idx t
  blk_simp
  rw [after0_3, block]
  refine Eq.trans ?_ (Cert.QkvRef.ref m' c _).symm
  rw [a0, a1, a2]
  have hj := (grid0.coords t 1).isLt
  change _ < 6 at hj
  unfold blockV
  refine act_eq ?_
  unfold conv Cert.QkvRef.conv
  refine reord (congrArg₂ (· * ·) (tap_eq _ _ _ _ _ hy _ ?_ _ _ ?_ fun h => Finset.sum_congr rfl fun k _ => congrArg₂ (· * ·) ?_ (weight m c t _ k _ ?_)) (taps m c t _ _ _ ?_))
      (congrArg₂ (· * ·) (tap_eq _ _ _ _ _ hy _ ?_ _ _ ?_ fun h => Finset.sum_congr rfl fun k _ => congrArg₂ (· * ·) ?_ (weight m c t _ k _ ?_)) (taps m c t _ _ _ ?_))
      (congrArg₂ (· * ·) (tap_eq _ _ _ _ _ hy _ ?_ _ _ ?_ fun h => Finset.sum_congr rfl fun k _ => congrArg₂ (· * ·) ?_ (weight m c t _ k _ ?_)) (taps m c t _ _ _ ?_))
      (congrArg₂ (· * ·) (tap_eq _ _ _ _ _ hy _ ?_ _ _ ?_ fun h => Finset.sum_congr rfl fun k _ => congrArg₂ (· * ·) ?_ (weight m c t _ k _ ?_)) (taps m c t _ _ _ ?_))
  all_goals first
    | exact zero_word
    | (blk_simp [e3]; done)
    | (blk_simp [e3]; omega)
    | (blk_ext [iblk, V, e0, e3]; done)

/-- The kernel and its reference end with the same result. -/
theorem algebraic : algebraic_Kernel7Ideal_Reference7Ideal := by
  intro m g m' g' _ hagree
  refine ⟨fun c => (dats m 0 c).arrAt 3 cfg0.N, Cert.Kernel7Ideal.Value.run_blocks m g, ?_⟩
  refine (θ_run _ _ _).mono (fun r h c => ?_) (Cert.Reference7Ideal.Value.run m' g')
  obtain ⟨h3, h0⟩ := h c
  obtain ⟨a0, a1, a2⟩ := hagree c
  exact ⟨h3.trans (value m c m' a0 a1 a2).symm, h0⟩

end Cert.QkvProj

end
-- ==== Proof.GateProj.lean ====
/- The first layer's output gate of the delta rule: what the kernel `Kernel8` leaves in its result is the product of the
   activations and the weights' columns for it, which is the reference's term. -/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GateProj

open Cert.Kernel8Ideal Cert.Kernel8Ideal.Gen Idealize.ShloMosaic Idealize.ShloMosaic.TcCoe Idealize.SL.Sem

/-- A block of the product; the weights' rows are the output's columns. -/
def prod (X : Vec Ideal S1x2048x2048 .bf16) (W : Vec Ideal S1x512x2048 .f32) : Vec Ideal S1x2048x512 .f32 :=
  fun y => ∑ k : Fin 2048, (X (ix3 0 (y 1) k) : EReal) * (W (ix3 0 (y 2) k) : EReal)

variable (m : (ℓ : Loc nD τ sig) → Buf (Elt Ideal) ℓ)

/-- The four row pieces that the body stores are the block of the product. -/
theorem out (c : Dev nD) (t : Fin cfg0.N) (y : S1x2048x512.Idx) : outsAt0 m c t y = prod (iblk m c 0 t) (X0_1 m c t) y := by
  dsimp only [outsAt0]
  frame_open
  simp (disch := decide) only [View.readAt_eq_ld, Memref.IsWhole.read_unread, View.ld_unit_lit]
  rw [View.read_writes_junk_eq_canon]
  generalize X0_1 m c t = W
  generalize (iblk m c 0 t : Vec Ideal S1x2048x2048 .bf16) = X
  refine View.canon_append_of_piecesOf (prod X W) [] [_, _, _, _] ⟨fun x => ?_, fun x => ?_, fun x => ?_, fun x => ?_, trivial⟩ y ?_
  · unfold k0_pay1 k0_pay6 k0_pay2 prod
    pointwise
    refine Finset.sum_congr rfl fun k _ => congrArg₂ (· * ·) (congrArg X (funext fun a => ?_)) (congrArg W (funext fun a => ?_))
    all_goals
      match a with
      | ⟨0, _⟩ => exact Fin.ext (by simp [Rect.emb, Rect.unit])
      | ⟨1, _⟩ => exact Fin.ext (by simp [Rect.emb, Rect.unit])
      | ⟨2, _⟩ => exact Fin.ext (by simp [Rect.emb, Rect.unit])
  · unfold k0_pay5 k0_pay2 prod
    pointwise
    refine Finset.sum_congr rfl fun k _ => congrArg₂ (· * ·) (congrArg X (funext fun a => ?_)) (congrArg W (funext fun a => ?_))
    all_goals
      match a with
      | ⟨0, _⟩ => exact Fin.ext (by simp [Rect.emb, Rect.unit])
      | ⟨1, _⟩ => exact Fin.ext (by simp [Rect.emb, Rect.unit])
      | ⟨2, _⟩ => exact Fin.ext (by simp [Rect.emb, Rect.unit])
  · unfold k0_pay4 k0_pay2 prod
    pointwise
    refine Finset.sum_congr rfl fun k _ => congrArg₂ (· * ·) (congrArg X (funext fun a => ?_)) (congrArg W (funext fun a => ?_))
    all_goals
      match a with
      | ⟨0, _⟩ => exact Fin.ext (by simp [Rect.emb, Rect.unit])
      | ⟨1, _⟩ => exact Fin.ext (by simp [Rect.emb, Rect.unit])
      | ⟨2, _⟩ => exact Fin.ext (by simp [Rect.emb, Rect.unit])
  · unfold k0_pay3 k0_pay2 prod
    pointwise
    refine Finset.sum_congr rfl fun k _ => congrArg₂ (· * ·) (congrArg X (funext fun a => ?_)) (congrArg W (funext fun a => ?_))
    all_goals
      match a with
      | ⟨0, _⟩ => exact Fin.ext (by simp [Rect.emb, Rect.unit])
      | ⟨1, _⟩ => exact Fin.ext (by simp [Rect.emb, Rect.unit])
      | ⟨2, _⟩ => exact Fin.ext (by simp [Rect.emb, Rect.unit])
  · have hy := (y 1).isLt
    change _ < 2048 at hy
    by_cases h3 : 1536 ≤ (y 1).val
    · exact ⟨_, List.mem_cons_self .., by simp [Rect.mem_set_unit, Fin.forall_fin_succ]; omega⟩
    by_cases h2 : 1024 ≤ (y 1).val
    · exact ⟨_, List.mem_cons_of_mem _ (List.mem_cons_self ..), by simp [Rect.mem_set_unit, Fin.forall_fin_succ]; omega⟩
    by_cases h1 : 512 ≤ (y 1).val
    · exact ⟨_, List.mem_cons_of_mem _ (List.mem_cons_of_mem _ (List.mem_cons_self ..)), by simp [Rect.mem_set_unit, Fin.forall_fin_succ]; omega⟩
    · exact ⟨_, List.mem_cons_of_mem _ (List.mem_cons_of_mem _ (List.mem_cons_of_mem _ (List.mem_cons_self ..))), by simp [Rect.mem_set_unit, Fin.forall_fin_succ]; omega⟩

/-- The windows' block indices at a grid point. -/
theorem idx : ∀ t : Fin cfg0.N, win0_0.index t = ![(grid0.coords t 0).val, 0, 0] ∧ win0_1.index t = ![0, (grid0.coords t 1).val + 6, 0]
    ∧ win0_2.index t = ![(grid0.coords t 0).val, 0, (grid0.coords t 1).val] :=
  (by decide +kernel : ∀ t : Fin grid0.N, _)

/-- A weight block's entry is the weights' entry at the output's column. -/
theorem weight (c : Dev nD) (t : Fin cfg0.N) (n : Fin 512) (k : Fin 2048) (q : Fin 6688) (hq : q.val = 3072 + ((grid0.coords t 1).val * 512 + n.val)) :
    X0_1 m c t (ix3 0 n k) = m ((c.tc : Thread nD τ).loc main_arg1) (ix3 0 k q) := by
  obtain ⟨e0, e1, e2⟩ := idx t
  unfold X0_1 Pipeline.Window.fill
  rw [dif_pos (moved0_1 t _)]
  unfold iblk
  entry_read
  blk_simp
  pointwise
  blk_ext [e1, hq]

/-- The reference's term at an index. -/
theorem ref (A : FVec Ideal S4x2048x2048 .bf16) (W : FVec Ideal S1x2048x6688 .f32) (i : S4x2048x1024.Idx) :
    (extractStridedSlice S4x2048x1024 ![0, 0, 3072] (Host.dotGeneral Cert.Reference8Ideal.dot_S4x2048x2048_S2048x6688_S4x2048x6688_2_0_01_1_n_n none (extf .f32 A (by decide : FTy.bits .bf16 < FTy.bits .f32)) (shapeCast Cert.Reference8Ideal.S2048x6688 W Cert.Reference8Ideal.Gen.shapeCasts_S1x2048x6688_S2048x6688 : FVec Ideal Cert.Reference8Ideal.S2048x6688 .f32)) Cert.Reference8Ideal.Gen.slices_S4x2048x6688_S4x2048x1024_0_0_3072 : FVec Ideal S4x2048x1024 .f32) i
      = ∑ k : Fin 2048, (A (ix3 (i 0) (i 1) k) : EReal) * (W (ix3 0 k ⟨3072 + (i 2).val, by have h := (i 2).isLt; change _ < 1024 at h; omega⟩) : EReal) := by
  pointwise

/-- The kernel's result array after its run is the product. -/
theorem value (c : Dev nD) :
    (dats m 0 c).arrAt 2 cfg0.N = (extractStridedSlice S4x2048x1024 ![0, 0, 3072] (Host.dotGeneral Cert.Reference8Ideal.dot_S4x2048x2048_S2048x6688_S4x2048x6688_2_0_01_1_n_n none (extf .f32 (m ((c.tc : Thread nD τ).loc main_arg0)) (by decide : FTy.bits .bf16 < FTy.bits .f32)) (shapeCast Cert.Reference8Ideal.S2048x6688 (m ((c.tc : Thread nD τ).loc main_arg1)) Cert.Reference8Ideal.Gen.shapeCasts_S1x2048x6688_S2048x6688 : FVec Ideal Cert.Reference8Ideal.S2048x6688 .f32)) Cert.Reference8Ideal.Gen.slices_S4x2048x6688_S4x2048x1024_0_0_3072 : FVec Ideal S4x2048x1024 .f32) := by
  refine (dats m 0 c).arrAt_eq_of_covers 2 _ (by decide +kernel) fun t hf y => ?_
  blk_simp
  rw [after0_2, out]
  obtain ⟨e0, e1, e2⟩ := idx t
  refine Eq.trans ?_ (ref _ _ _).symm
  unfold prod
  refine Finset.sum_congr (M := EReal) rfl fun k _ => congrArg₂ (· * ·) ?_ ?_
  · blk_ext [iblk, V, e0, e2]
  · refine weight m c t _ k _ ?_
    blk_simp [e2]

/-- The kernel and its reference end with the same result. -/
theorem algebraic : algebraic_Kernel8Ideal_Reference8Ideal := by
  intro m g m' g' _ hagree
  refine ⟨fun c => (dats m 0 c).arrAt 2 cfg0.N, Cert.Kernel8Ideal.Value.run_blocks m g, ?_⟩
  refine (θ_run _ _ _).mono (fun r h c => ?_) (Cert.Reference8Ideal.Value.run m' g')
  obtain ⟨h3, h0, h1⟩ := h c
  obtain ⟨a0, a1⟩ := hagree c
  refine ⟨?_, h0, h1⟩
  rw [h3, a0, a1]
  exact (value m c).symm

end Cert.GateProj

end
-- ==== Proof.Frames.lean ====
/- The reference programs end with their arguments unchanged and every semaphore counter at zero. -/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import Idealize.ShloMosaic.Lib.Quiescent

@[expose] public section

set_option maxRecDepth 16384

namespace Cert.Frames

open Idealize.ShloMosaic Idealize.SL.Sem Idealize.ShloMosaic.StableHlo Idealize.ShloMosaic.TcCoe

/-- The run of `Reference2Ideal`, read at its arguments; it has no semaphore. -/
theorem reference2 : Cert.quiescent_Reference2Ideal := fun m g _ =>
  (θ_run _ _ _).mono (fun r h => ⟨fun c => (h c).2.2, sem_eq_zero_of_no_sems (by decide) r.2⟩) (Cert.Reference2Ideal.Value.run m g)

/-- The run of `Reference3Ideal`, read at its arguments; it has no semaphore. -/
theorem reference3 : Cert.quiescent_Reference3Ideal := fun m g _ =>
  (θ_run _ _ _).mono (fun r h => ⟨fun c => (h c).2, sem_eq_zero_of_no_sems (by decide) r.2⟩) (Cert.Reference3Ideal.Value.run m g)

/-- The run of `Reference4Ideal`, read at its arguments; it has no semaphore. -/
theorem reference4 : Cert.quiescent_Reference4Ideal := fun m g _ =>
  (θ_run _ _ _).mono (fun r h => ⟨fun c => (h c).2, sem_eq_zero_of_no_sems (by decide) r.2⟩) (Cert.Reference4Ideal.Value.run m g)

/-- The run of `Reference5Ideal`, read at its arguments; it has no semaphore. -/
theorem reference5 : Cert.quiescent_Reference5Ideal := fun m g _ =>
  (θ_run _ _ _).mono (fun r h => ⟨fun c => (h c).2, sem_eq_zero_of_no_sems (by decide) r.2⟩) (Cert.Reference5Ideal.Value.run m g)

/-- The run of `Reference6Ideal`, read at its arguments; it has no semaphore. -/
theorem reference6 : Cert.quiescent_Reference6Ideal := fun m g _ =>
  (θ_run _ _ _).mono (fun r h => ⟨fun c => (h c).2.2, sem_eq_zero_of_no_sems (by decide) r.2⟩) (Cert.Reference6Ideal.Value.run m g)

/-- The run of `Reference7Ideal`, read at its arguments; it has no semaphore. -/
theorem reference7 : Cert.quiescent_Reference7Ideal := fun m g _ =>
  (θ_run _ _ _).mono (fun r h => ⟨fun c => (h c).2, sem_eq_zero_of_no_sems (by decide) r.2⟩) (Cert.Reference7Ideal.Value.run m g)

/-- The run of `Reference8Ideal`, read at its arguments; it has no semaphore. -/
theorem reference8 : Cert.quiescent_Reference8Ideal := fun m g _ =>
  (θ_run _ _ _).mono (fun r h => ⟨fun c => (h c).2, sem_eq_zero_of_no_sems (by decide) r.2⟩) (Cert.Reference8Ideal.Value.run m g)

open Cert.ReferenceIdeal Cert.ReferenceIdeal.Gen Cert.ReferenceIdeal.Value

/-- The references that the operations of `hostOps0_11` write. -/
abbrev post11W : List (Ref sig .tc) := [main_v77, main_v78, main_v79, main_v80, main_v81, main_v82, main_cst_10, main_v83, main_v84, main_cst_11, main_v85, main_v86, main_cst_12, main_v87, main_v88, main_v89, main_v90, main_v91, main_v92, main_v93, main_v94, main_v95]
/-- No operation writes another. -/
theorem post11Writes : (hostOps0_11 : List (HloOp τ sig (Elt Ideal))).Forall fun op => op.writes ⊆ (post11W.map (Proc.devRef (τ := τ) .tc)).toFinset :=
  forall_writes_sub_of_map rfl

/-- The references that the operations of `hostOps0_12` write. -/
abbrev post12W : List (Ref sig .tc) := [main_call8_v0, main_call8_v1, main_call8_cst, main_call8_v2, main_call8_v3, main_call8_cst_0, main_call8_v4, main_call8_v5, main_v96]
/-- No operation writes another. -/
theorem post12Writes : (hostOps0_12 : List (HloOp τ sig (Elt Ideal))).Forall fun op => op.writes ⊆ (post12W.map (Proc.devRef (τ := τ) .tc)).toFinset :=
  forall_writes_sub_of_map rfl

/-- The references that the operations of `hostOps0_13` write. -/
abbrev post13W : List (Ref sig .tc) := [main_v97, main_v98, main_v99, main_v100, main_v101]
/-- No operation writes another. -/
theorem post13Writes : (hostOps0_13 : List (HloOp τ sig (Elt Ideal))).Forall fun op => op.writes ⊆ (post13W.map (Proc.devRef (τ := τ) .tc)).toFinset :=
  forall_writes_sub_of_map rfl

/-- A reference that no stretch of operations writes. -/
abbrev Untouched (r : Ref sig .tc) : Prop :=
  (∀ W ∈ [hostOps0_W, hostOps0_1_W, hostOps0_2_W, hostOps0_3_W, hostOps0_4_W, hostOps0_5_W, hostOps0_6_W, hostOps0_7_W, hostOps0_8_W, hostOps0_9_W, hostOps0_10_W], r ∉ W) ∧ (∀ W ∈ [condOps_W, while0Ops0_W, while0Ops0_1_W, while0Ops0_2_W, while0Ops0_3_W, while0Ops0_4_W], r ∉ W)
    ∧ ∀ W ∈ [post11W, post12W, post13W], r ∉ W

/-- The stretches keep a reference that none of them writes. -/
theorem keep_pre {r : Ref sig .tc} (h : ∀ W ∈ [hostOps0_W, hostOps0_1_W, hostOps0_2_W, hostOps0_3_W, hostOps0_4_W, hostOps0_5_W, hostOps0_6_W, hostOps0_7_W, hostOps0_8_W, hostOps0_9_W, hostOps0_10_W], r ∉ W) (V : Valuation τ sig (Elt Ideal)) :
    afterL (preI (F := Ideal)) V (Proc.devRef .tc r) = V (Proc.devRef .tc r) :=
  (after_of_writes_sub hostOps0_10 _ hostOps0_10_writes (h _ (by simp))).trans <| (after_of_writes_sub hostOps0_9 _ hostOps0_9_writes (h _ (by simp))).trans <| (after_of_writes_sub hostOps0_8 _ hostOps0_8_writes (h _ (by simp))).trans <| (after_of_writes_sub hostOps0_7 _ hostOps0_7_writes (h _ (by simp))).trans <| (after_of_writes_sub hostOps0_6 _ hostOps0_6_writes (h _ (by simp))).trans <| (after_of_writes_sub hostOps0_5 _ hostOps0_5_writes (h _ (by simp))).trans <| (after_of_writes_sub hostOps0_4 _ hostOps0_4_writes (h _ (by simp))).trans <| (after_of_writes_sub hostOps0_3 _ hostOps0_3_writes (h _ (by simp))).trans <| (after_of_writes_sub hostOps0_2 _ hostOps0_2_writes (h _ (by simp))).trans <| (after_of_writes_sub hostOps0_1 _ hostOps0_1_writes (h _ (by simp))).trans <| (after_of_writes_sub hostOps0 _ hostOps0_writes (h _ (by simp))).trans <| rfl

/-- The stretches keep a reference that none of them writes. -/
theorem keep_trip {r : Ref sig .tc} (h : ∀ W ∈ [condOps_W, while0Ops0_W, while0Ops0_1_W, while0Ops0_2_W, while0Ops0_3_W, while0Ops0_4_W], r ∉ W) (V : Valuation τ sig (Elt Ideal)) :
    afterL (bodyI (F := Ideal)) (after condOps V) (Proc.devRef .tc r) = V (Proc.devRef .tc r) :=
  (after_of_writes_sub while0Ops0_4 _ while0Ops0_4_writes (h _ (by simp))).trans <| (after_of_writes_sub while0Ops0_3 _ while0Ops0_3_writes (h _ (by simp))).trans <| (after_of_writes_sub while0Ops0_2 _ while0Ops0_2_writes (h _ (by simp))).trans <| (after_of_writes_sub while0Ops0_1 _ while0Ops0_1_writes (h _ (by simp))).trans <| (after_of_writes_sub while0Ops0 _ while0Ops0_writes (h _ (by simp))).trans <| (after_of_writes_sub condOps _ condOps_writes (h _ (by simp))).trans <| rfl

/-- The stretches keep a reference that none of them writes. -/
theorem keep_post {r : Ref sig .tc} (h : ∀ W ∈ [post11W, post12W, post13W], r ∉ W) (V : Valuation τ sig (Elt Ideal)) :
    afterL (postI (F := Ideal)) V (Proc.devRef .tc r) = V (Proc.devRef .tc r) :=
  (after_of_writes_sub hostOps0_13 _ post13Writes (h _ (by simp))).trans <| (after_of_writes_sub hostOps0_12 _ post12Writes (h _ (by simp))).trans <| (after_of_writes_sub hostOps0_11 _ post11Writes (h _ (by simp))).trans <| rfl

/-- The trips keep a reference that no operation of a trip writes. -/
theorem keep_trips {r : Ref sig .tc} (h : ∀ W ∈ [condOps_W, while0Ops0_W, while0Ops0_1_W, while0Ops0_2_W, while0Ops0_3_W, while0Ops0_4_W], r ∉ W) (V : Dev nD → Valuation τ sig (Elt Ideal)) (c : Dev nD) :
    ∀ k, atTrip (condOps (F := Ideal)) bodyI V k c (Proc.devRef .tc r) = V c (Proc.devRef .tc r)
  | 0 => rfl
  | k + 1 => (keep_trip h _).trans (keep_trips h V c k)

/-- A reference that no operation writes ends as launched. -/
theorem keep {r : Ref sig .tc} (h : Untouched r) (m : (ℓ : Loc nD τ sig) → Buf (Elt Ideal) ℓ) (c : Dev nD) :
    finalContents (condOps (F := Ideal)) preI bodyI postI 64 m c (Proc.devRef .tc r) = m ((c.tc : Thread nD τ).loc r) :=
  (keep_post h.2.2 _).trans <| (after_of_writes_sub condOps _ condOps_writes (h.2.1 _ (by simp))).trans <|
    (keep_trips h.2.1 _ c 64).trans <| (keep_pre h.1 _).trans rfl

/-- The run of `ReferenceIdeal`, read at its arguments; it has no semaphore. -/
theorem reference : Cert.quiescent_ReferenceIdeal := fun m g _ =>
  (θ_run _ _ _).mono (fun r h => ⟨fun c => ⟨(h c main_arg0 rfl).trans (keep (by decide +kernel) m c), (h c main_arg1 rfl).trans (keep (by decide +kernel) m c),
    (h c main_arg2 rfl).trans (keep (by decide +kernel) m c), (h c main_arg3 rfl).trans (keep (by decide +kernel) m c)⟩, sem_eq_zero_of_no_sems (by decide) r.2⟩) (run_fold m g)

end Cert.Frames

end
-- ==== Proof.lean ====
/- The certificate: every program ends with its arguments unchanged, and each idealized program ends with its reference's
   results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.FfnValue
public import proofs.«01_k».proof.Proof.FfnOut
public import proofs.«01_k».proof.Proof.ProjPlain
public import proofs.«01_k».proof.Proof.MixOut
public import proofs.«01_k».proof.Proof.MemAttn
public import proofs.«01_k».proof.Proof.QkvValue
public import proofs.«01_k».proof.Proof.GateProj
public import proofs.«01_k».proof.Proof.Frames

@[expose] public section

namespace Cert.Proof

open Idealize.ShloMosaic

/-- Every claim of the certificate. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.MemAttn.facts,
    (fun m ρ _ => Cert.Kernel.Gen.frame m ρ),
    (fun m ρ _ => Cert.KernelIdeal.Gen.frame m ρ),
    Cert.Frames.reference,
    (fun m ρ _ => Cert.Kernel2.Gen.frame m ρ),
    (fun m ρ _ => Cert.Kernel2Ideal.Gen.frame m ρ),
    Cert.Frames.reference2,
    (fun m ρ _ => Cert.Kernel3.Gen.frame m ρ),
    (fun m ρ _ => Cert.Kernel3Ideal.Gen.frame m ρ),
    Cert.Frames.reference3,
    (fun m ρ _ => Cert.Kernel4.Gen.frame m ρ),
    (fun m ρ _ => Cert.Kernel4Ideal.Gen.frame m ρ),
    Cert.Frames.reference4,
    (fun m ρ _ => Cert.Kernel5.Gen.frame m ρ),
    (fun m ρ _ => Cert.Kernel5Ideal.Gen.frame m ρ),
    Cert.Frames.reference5,
    (fun m ρ _ => Cert.Kernel6.Gen.frame m ρ),
    (fun m ρ _ => Cert.Kernel6Ideal.Gen.frame m ρ),
    (fun m ρ _ => Cert.Kernel6Ideal.Gen.frame m ρ),
    Cert.Frames.reference6,
    (fun m ρ _ => Cert.Frames.reference6 m ρ trivial),
    (fun m ρ _ => Cert.Kernel7.Gen.frame m ρ),
    (fun m ρ _ => Cert.Kernel7Ideal.Gen.frame m ρ),
    Cert.Frames.reference7,
    (fun m ρ _ => Cert.Kernel8.Gen.frame m ρ),
    (fun m ρ _ => Cert.Kernel8Ideal.Gen.frame m ρ),
    Cert.Frames.reference8,
    trivial,
    trivial,
    Cert.FfnProj.algebraic,
    trivial,
    Cert.FfnOut.algebraic,
    trivial,
    Cert.ProjPlain.algebraic,
    trivial,
    Cert.MixOut.algebraic,
    IdealRules.named_const.statement Cert.Kernel6Ideal.κ "inv_sqrt_d" .f32 0x3DB504F3#32 (((Real.sqrt 128)⁻¹ : ℝ) : EReal) rfl,
    Cert.MemAttn.algebraic,
    trivial,
    Cert.QkvProj.algebraic,
    trivial,
    Cert.GateProj.algebraic⟩

end Cert.Proof

end
